-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_boundaries [hPre_all_boundaries : Cert.Pre_all_boundaries.Facts] (m : (ℓ : Loc Cert.KernelIdeal.nD Cert.KernelIdeal.τ Cert.KernelIdeal.sig) → Buf (Elt Ideal) ℓ) : Prop :=
  ∀ c : Dev Cert.KernelIdeal.nD,
    (Cert.Pre_all_boundaries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_boundaries [hPre_all_boundaries : Cert.Pre_all_boundaries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_boundaries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_boundaries [hKernelIdeal : Cert.KernelIdeal.Facts] [hPre_all_boundaries : Cert.Pre_all_boundaries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_boundaries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_boundaries [hReferenceIdeal : Cert.ReferenceIdeal.Facts] [hPre_all_boundaries : Cert.Pre_all_boundaries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_boundaries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_all_boundaries [hKernelIdeal : Cert.KernelIdeal.Facts] [hReferenceIdeal : Cert.ReferenceIdeal.Facts] [hPre_all_boundaries : Cert.Pre_all_boundaries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_boundaries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_all_boundaries : Cert.Pre_all_boundaries.Facts),
    quiescent_Kernel (hKernel := hKernel)
    ∧ quiescent_KernelIdeal (hKernelIdeal := hKernelIdeal)
    ∧ quiescent_KernelIdeal_pre_all_boundaries (hKernelIdeal := hKernelIdeal) (hPre_all_boundaries := hPre_all_boundaries)
    ∧ quiescent_ReferenceIdeal (hReferenceIdeal := hReferenceIdeal)
    ∧ quiescent_ReferenceIdeal_pre_all_boundaries (hReferenceIdeal := hReferenceIdeal) (hPre_all_boundaries := hPre_all_boundaries)
    ∧ preserves_Kernel_KernelIdeal
    ∧ algebraic_KernelIdeal_ReferenceIdeal_pre_all_boundaries (hKernelIdeal := hKernelIdeal) (hReferenceIdeal := hReferenceIdeal) (hPre_all_boundaries := hPre_all_boundaries)
-- ==== Pre_all_boundaries.lean ====
abbrev S2x2048x1024 : Shape := ⟨3, ![2, 2048, 1024]⟩
abbrev S2x2048 : Shape := ⟨2, ![2, 2048]⟩
abbrev S_ : Shape := ⟨0, ![]⟩

class Facts : Prop where
  reducesTo_S2x2048_S_d0_1 : S2x2048.ReducesTo [0, 1] S_
  h_S_ : 0 < S_.numel

variable [Facts]

def fn {F : FTy → Type} [FloatOps F] (main_arg0 : FVec F S2x2048x1024 .f32) (main_arg1 : IVec S2x2048 1) (main_arg2 : FVec F S2x2048 .f32) (main_arg3 : IVec S2x2048 1) : IVec S_ 1 :=
  let main_c : IVec S_ 1 := constantI S_ 1 1#1
  let main_v0 : IVec S_ 1 := (fun x v => Host.reduce IntOp.andi x v reducesTo_S2x2048_S_d0_1 h_S_) main_arg1 main_c
  main_v0
-- ==== Kernel.lean ====
abbrev S2x2048x1024 : Shape := ⟨3, ![2, 2048, 1024]⟩
abbrev S2x2048 : Shape := ⟨2, ![2, 2048]⟩
abbrev S2x1x2048 : Shape := ⟨3, ![2, 1, 2048]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S16x256x1024 : Shape := ⟨3, ![16, 256, 1024]⟩
abbrev S16 : Shape := ⟨1, ![16]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x1024 : Shape := ⟨2, ![1, 1024]⟩
abbrev S1x1x2048 : Shape := ⟨3, ![1, 1, 2048]⟩
abbrev S1x2048 : Shape := ⟨2, ![1, 2048]⟩

abbrev nBuf : Space → Nat
  | .hbm => 13
  | .vmem => 4
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i1⟩
  | .hbm, ⟨2, _⟩ => ⟨S2x2048, .f32⟩
  | .hbm, ⟨3, _⟩ => ⟨S2x2048, .i1⟩
  | .hbm, ⟨4, _⟩ => ⟨S2x1x2048, .f32⟩
  | .hbm, ⟨5, _⟩ => ⟨S256, .i32⟩
  | .hbm, ⟨6, _⟩ => ⟨S1x256, .i32⟩
  | .hbm, ⟨7, _⟩ => ⟨S256x1, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S256x256, .f32⟩
  | .hbm, ⟨12, _⟩ => ⟨S2x2048x1024, .f32⟩
  | .local _ .vmem, ⟨0, _⟩ => ⟨S256x256, .f32⟩
  | .local _ .vmem, ⟨1, _⟩ => ⟨S2x1x2048, .f32⟩
  | .local _ .vmem, ⟨2, _⟩ => ⟨S16x256x1024, .f32⟩
  | .local _ .vmem, ⟨3, _⟩ => ⟨S16x256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S2x2048 : Shape := ⟨2, ![2, 2048]⟩
abbrev S_ : Shape := ⟨0, ![]⟩
abbrev S2048 : Shape := ⟨1, ![2048]⟩
abbrev S1x2048 : Shape := ⟨2, ![1, 2048]⟩
abbrev S2x2048x1 : Shape := ⟨3, ![2, 2048, 1]⟩
abbrev S1 : Shape := ⟨1, ![1]⟩
abbrev S1x1x1 : Shape := ⟨3, ![1, 1, 1]⟩
abbrev S2x2048x32x32 : Shape := ⟨4, ![2, 2048, 32, 32]⟩
abbrev S2x2048x32 : Shape := ⟨3, ![2, 2048, 32]⟩
abbrev S2x2048x1x1 : Shape := ⟨4, ![2, 2048, 1, 1]⟩
abbrev S2x2048x32x1 : Shape := ⟨4, ![2, 2048, 32, 1]⟩
abbrev S2x16x128x32x32 : Shape := ⟨5, ![2, 16, 128, 32, 32]⟩
abbrev S2x16x128x32 : Shape := ⟨4, ![2, 16, 128, 32]⟩
abbrev S2x16x128x32x1 : Shape := ⟨5, ![2, 16, 128, 32, 1]⟩
abbrev S2x32x16x128 : Shape := ⟨4, ![2, 32, 16, 128]⟩
abbrev S2x32x16x128x1 : Shape := ⟨5, ![2, 32, 16, 128, 1]⟩
abbrev S2x32x16x128x128 : Shape := ⟨5, ![2, 32, 16, 128, 128]⟩
abbrev S128x128 : Shape := ⟨2, ![128, 128]⟩
abbrev S2x16x32x32x128 : Shape := ⟨5, ![2, 16, 32, 32, 128]⟩
abbrev S2x32x16x1 : Shape := ⟨4, ![2, 32, 16, 1]⟩
abbrev S2x16x32x32x1 : Shape := ⟨5, ![2, 16, 32, 32, 1]⟩
abbrev S2x1x32x32x1 : Shape := ⟨5, ![2, 1, 32, 32, 1]⟩
abbrev S2x17x32x32x1 : Shape := ⟨5, ![2, 17, 32, 32, 1]⟩
abbrev S2x32x16 : Shape := ⟨3, ![2, 32, 16]⟩
abbrev S2x32x17 : Shape := ⟨3, ![2, 32, 17]⟩
abbrev S2x32x17x1 : Shape := ⟨4, ![2, 32, 17, 1]⟩
abbrev S2x32x17x17 : Shape := ⟨4, ![2, 32, 17, 17]⟩
abbrev S17x17 : Shape := ⟨2, ![17, 17]⟩
abbrev S2x32x32x1x17 : Shape := ⟨5, ![2, 32, 32, 1, 17]⟩
abbrev S2x32x32x1 : Shape := ⟨4, ![2, 32, 32, 1]⟩
abbrev S2x2048x1024x1 : Shape := ⟨4, ![2, 2048, 1024, 1]⟩
abbrev S1x1x1x1 : Shape := ⟨4, ![1, 1, 1, 1]⟩

abbrev nBuf : Space → Nat
  | .hbm => 218
  | .vmem => 0
  | .smem => 0
  | _ => 0

abbrev hbmTy0_0 (i : Nat) : BufTy := match i % 128 with
  | 0 => ⟨S2x2048x1024, .f32⟩
  | 1 => ⟨S2x2048, .i1⟩
  | 2 => ⟨S2x2048, .f32⟩
  | 3 => ⟨S2x2048, .i1⟩
  | 4 => ⟨S_, .f32⟩
  | 5 => ⟨S_, .f32⟩
  | 6 => ⟨S_, .f32⟩
  | 7 => ⟨S2x2048, .f32⟩
  | 8 => ⟨S2x2048, .f32⟩
  | 9 => ⟨S_, .f32⟩
  | 10 => ⟨S2x2048, .f32⟩
  | 11 => ⟨S2x2048, .f32⟩
  | 12 => ⟨S2048, .i32⟩
  | 13 => ⟨S1x2048, .i32⟩
  | 14 => ⟨S2x2048, .i1⟩
  | 15 => ⟨S2x2048, .i32⟩
  | 16 => ⟨S_, .i32⟩
  | 17 => ⟨S2x2048, .i32⟩
  | 18 => ⟨S2x2048, .i32⟩
  | 19 => ⟨S2x2048, .i32⟩
  | 20 => ⟨S2x2048, .i32⟩
  | 21 => ⟨S2x2048, .i32⟩
  | 22 => ⟨S2x2048, .i32⟩
  | 23 => ⟨S2x2048, .i32⟩
  | 24 => ⟨S_, .i32⟩
  | 25 => ⟨S2x2048, .i32⟩
  | 26 => ⟨S2x2048, .i1⟩
  | 27 => ⟨S_, .i32⟩
  | 28 => ⟨S2x2048, .i32⟩
  | 29 => ⟨S2x2048, .i32⟩
  | 30 => ⟨S2x2048, .i32⟩
  | 31 => ⟨S2x2048x1, .i32⟩
  | 32 => ⟨S1, .i32⟩
  | 33 => ⟨S_, .i32⟩
  | 34 => ⟨S2x2048x1, .i32⟩
  | 35 => ⟨S2x2048x1, .i1⟩
  | 36 => ⟨S1x1x1, .i32⟩
  | 37 => ⟨S2x2048x1, .i32⟩
  | 38 => ⟨S2x2048x1, .i1⟩
  | 39 => ⟨S2x2048x1, .i1⟩
  | 40 => ⟨S_, .i1⟩
  | 41 => ⟨S2x2048, .i1⟩
  | 42 => ⟨S2x2048, .f32⟩
  | 43 => ⟨S_, .f32⟩
  | 44 => ⟨S2x2048, .f32⟩
  | 45 => ⟨S2x2048, .f32⟩
  | 46 => ⟨S_, .f32⟩
  | 47 => ⟨S2x2048, .f32⟩
  | 48 => ⟨S2x2048, .f32⟩
  | 49 => ⟨S_, .f32⟩
  | 50 => ⟨S2x2048, .f32⟩
  | 51 => ⟨S2x2048, .f32⟩
  | 52 => ⟨S2x2048, .f32⟩
  | 53 => ⟨S2x2048x1, .f32⟩
  | 54 => ⟨S2x2048x1024, .f32⟩
  | 55 => ⟨S2x2048x1024, .f32⟩
  | 56 => ⟨S2x2048x32x32, .f32⟩
  | 57 => ⟨S2x2048x1, .f32⟩
  | 58 => ⟨S2x2048x32, .f32⟩
  | 59 => ⟨S_, .f32⟩
  | 60 => ⟨S2x2048x32, .f32⟩
  | 61 => ⟨S2x2048x32, .f32⟩
  | 62 => ⟨S2x2048x1x1, .f32⟩
  | 63 => ⟨S2x2048x32x1, .f32⟩
  | 64 => ⟨S_, .f32⟩
  | 65 => ⟨S2x2048x32x1, .f32⟩
  | 66 => ⟨S2x2048x32, .f32⟩
  | 67 => ⟨S2x16x128x32x32, .f32⟩
  | 68 => ⟨S2x16x128x32, .f32⟩
  | 69 => ⟨S2x16x128x32x1, .f32⟩
  | 70 => ⟨S2x16x128x32x1, .f32⟩
  | 71 => ⟨S2x32x16x128, .f32⟩
  | 72 => ⟨S_, .f32⟩
  | 73 => ⟨S_, .f32⟩
  | 74 => ⟨S2x32x16x128, .f32⟩
  | 75 => ⟨S2x32x16x128x1, .f32⟩
  | 76 => ⟨S2x32x16x128x128, .f32⟩
  | 77 => ⟨S_, .i1⟩
  | 78 => ⟨S128x128, .i1⟩
  | 79 => ⟨S128x128, .i32⟩
  | 80 => ⟨S_, .i32⟩
  | 81 => ⟨S128x128, .i32⟩
  | 82 => ⟨S128x128, .i32⟩
  | 83 => ⟨S128x128, .i32⟩
  | 84 => ⟨S128x128, .i1⟩
  | 85 => ⟨S_, .i1⟩
  | 86 => ⟨S128x128, .i1⟩
  | 87 => ⟨S128x128, .i1⟩
  | 88 => ⟨S_, .f32⟩
  | 89 => ⟨S_, .f32⟩
  | 90 => ⟨S2x32x16x128x128, .i1⟩
  | 91 => ⟨S2x32x16x128x128, .f32⟩
  | 92 => ⟨S2x32x16x128x128, .f32⟩
  | 93 => ⟨S_, .f32⟩
  | 94 => ⟨S_, .f32⟩
  | 95 => ⟨S2x32x16x128x128, .f32⟩
  | 96 => ⟨S_, .i1⟩
  | 97 => ⟨S128x128, .i1⟩
  | 98 => ⟨S128x128, .i32⟩
  | 99 => ⟨S_, .i32⟩
  | 100 => ⟨S128x128, .i32⟩
  | 101 => ⟨S128x128, .i32⟩
  | 102 => ⟨S128x128, .i32⟩
  | 103 => ⟨S128x128, .i1⟩
  | 104 => ⟨S_, .i1⟩
  | 105 => ⟨S128x128, .i1⟩
  | 106 => ⟨S128x128, .i1⟩
  | 107 => ⟨S_, .f32⟩
  | 108 => ⟨S_, .f32⟩
  | 109 => ⟨S2x32x16x128x128, .i1⟩
  | 110 => ⟨S2x32x16x128x128, .f32⟩
  | 111 => ⟨S2x32x16x128x128, .f32⟩
  | 112 => ⟨S2x32x16x128x128, .f32⟩
  | 113 => ⟨S2x32x16x128x128, .f32⟩
  | 114 => ⟨S2x32x16x128x128, .f32⟩
  | 115 => ⟨S2x16x32x32x128, .f32⟩
  | 116 => ⟨S2x16x128x32x32, .f32⟩
  | 117 => ⟨S2x32x16x1, .f32⟩
  | 118 => ⟨S2x32x16x128, .f32⟩
  | 119 => ⟨S2x32x16x128, .f32⟩
  | 120 => ⟨S2x32x16x128, .f32⟩
  | 121 => ⟨S2x16x128x32, .f32⟩
  | 122 => ⟨S2x16x128x32x1, .f32⟩
  | 123 => ⟨S2x16x128x32x1, .f32⟩
  | 124 => ⟨S2x16x32x32x1, .f32⟩
  | 125 => ⟨S2x1x32x32x1, .f32⟩
  | 126 => ⟨S_, .f32⟩
  | 127 => ⟨S2x1x32x32x1, .f32⟩
  | _ => ⟨S2x2048x1024, .f32⟩

abbrev hbmTy0_1 (i : Nat) : BufTy := match i % 128 with
  | 0 => ⟨S2x17x32x32x1, .f32⟩
  | 1 => ⟨S2x32x16x1, .f32⟩
  | 2 => ⟨S2x32x16, .f32⟩
  | 3 => ⟨S_, .i32⟩
  | 4 => ⟨S_, .f32⟩
  | 5 => ⟨S2x32x17, .f32⟩
  | 6 => ⟨S2x32x17x1, .f32⟩
  | 7 => ⟨S2x32x17x17, .f32⟩
  | 8 => ⟨S_, .i1⟩
  | 9 => ⟨S17x17, .i1⟩
  | 10 => ⟨S17x17, .i32⟩
  | 11 => ⟨S_, .i32⟩
  | 12 => ⟨S17x17, .i32⟩
  | 13 => ⟨S17x17, .i32⟩
  | 14 => ⟨S17x17, .i32⟩
  | 15 => ⟨S17x17, .i1⟩
  | 16 => ⟨S_, .i1⟩
  | 17 => ⟨S17x17, .i1⟩
  | 18 => ⟨S17x17, .i1⟩
  | 19 => ⟨S_, .f32⟩
  | 20 => ⟨S_, .f32⟩
  | 21 => ⟨S2x32x17x17, .i1⟩
  | 22 => ⟨S2x32x17x17, .f32⟩
  | 23 => ⟨S2x32x17x17, .f32⟩
  | 24 => ⟨S_, .f32⟩
  | 25 => ⟨S_, .f32⟩
  | 26 => ⟨S2x32x17x17, .f32⟩
  | 27 => ⟨S_, .i1⟩
  | 28 => ⟨S17x17, .i1⟩
  | 29 => ⟨S17x17, .i32⟩
  | 30 => ⟨S_, .i32⟩
  | 31 => ⟨S17x17, .i32⟩
  | 32 => ⟨S17x17, .i32⟩
  | 33 => ⟨S17x17, .i32⟩
  | 34 => ⟨S17x17, .i1⟩
  | 35 => ⟨S_, .i1⟩
  | 36 => ⟨S17x17, .i1⟩
  | 37 => ⟨S17x17, .i1⟩
  | 38 => ⟨S_, .f32⟩
  | 39 => ⟨S_, .f32⟩
  | 40 => ⟨S2x32x17x17, .i1⟩
  | 41 => ⟨S2x32x17x17, .f32⟩
  | 42 => ⟨S2x32x17x17, .f32⟩
  | 43 => ⟨S2x32x17x17, .f32⟩
  | 44 => ⟨S2x32x32x1x17, .f32⟩
  | 45 => ⟨S2x17x32x32x1, .f32⟩
  | 46 => ⟨S2x16x32x32x1, .f32⟩
  | 47 => ⟨S2x1x32x32x1, .f32⟩
  | 48 => ⟨S2x32x32x1, .f32⟩
  | 49 => ⟨S2x32x16x128, .f32⟩
  | 50 => ⟨S2x16x32x32x128, .f32⟩
  | 51 => ⟨S2x16x128x32x32, .f32⟩
  | 52 => ⟨S2x16x128x32, .f32⟩
  | 53 => ⟨S2x16x128x32x1, .f32⟩
  | 54 => ⟨S2x16x128x32x32, .f32⟩
  | 55 => ⟨S2x16x128x32x32, .f32⟩
  | 56 => ⟨S2x16x128x32x32, .f32⟩
  | 57 => ⟨S2x2048x32x32, .f32⟩
  | 58 => ⟨S2x2048x1024, .f32⟩
  | 59 => ⟨S2x2048, .i32⟩
  | 60 => ⟨S_, .i32⟩
  | 61 => ⟨S_, .i32⟩
  | 62 => ⟨S2x2048, .i32⟩
  | 63 => ⟨S_, .i32⟩
  | 64 => ⟨S2x2048, .i32⟩
  | 65 => ⟨S2x2048, .i32⟩
  | 66 => ⟨S2x2048x1, .i32⟩
  | 67 => ⟨S2x2048x1024, .i32⟩
  | 68 => ⟨S_, .i32⟩
  | 69 => ⟨S2x2048x1024, .i32⟩
  | 70 => ⟨S2x2048x1024, .i1⟩
  | 71 => ⟨S_, .i32⟩
  | 72 => ⟨S2x2048x1024, .i32⟩
  | 73 => ⟨S2x2048x1024, .i32⟩
  | 74 => ⟨S2x2048x1024, .i32⟩
  | 75 => ⟨S2x2048x1024x1, .i32⟩
  | 76 => ⟨S1, .i32⟩
  | 77 => ⟨S_, .i32⟩
  | 78 => ⟨S2x2048x1024x1, .i32⟩
  | 79 => ⟨S2x2048x1024x1, .i1⟩
  | 80 => ⟨S1x1x1x1, .i32⟩
  | 81 => ⟨S2x2048x1024x1, .i32⟩
  | 82 => ⟨S2x2048x1024x1, .i1⟩
  | 83 => ⟨S2x2048x1024x1, .i1⟩
  | 84 => ⟨S_, .i1⟩
  | 85 => ⟨S2x2048x1024, .i1⟩
  | 86 => ⟨S2x2048x1024, .f32⟩
  | 87 => ⟨S_, .f32⟩
  | 88 => ⟨S2x2048x1024, .f32⟩
  | 89 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1_0 : Ref sig .tc := ⟨.hbm, 22, rfl⟩
abbrev main_v9 : Ref sig .tc := ⟨.hbm, 23, rfl⟩
abbrev main_call2_c : Ref sig .tc := ⟨.hbm, 24, rfl⟩
abbrev main_call2_v0 : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_c_1 : Ref sig .tc := ⟨.hbm, 32, rfl⟩
abbrev main_call2_c_2 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_3 : Ref sig .tc := ⟨.hbm, 40, rfl⟩
abbrev main_call2_v12 : Ref sig .tc := ⟨.hbm, 41, rfl⟩
abbrev main_call2_v13 : Ref sig .tc := ⟨.hbm, 42, rfl⟩
abbrev main_call2_cst : Ref sig .tc := ⟨.hbm, 43, rfl⟩
abbrev main_call2_v14 : Ref sig .tc := ⟨.hbm, 44, rfl⟩
abbrev main_v10 : Ref sig .tc := ⟨.hbm, 45, rfl⟩
abbrev main_cst_1 : Ref sig .tc := ⟨.hbm, 46, rfl⟩
abbrev main_v11 : Ref sig .tc := ⟨.hbm, 47, rfl⟩
abbrev main_v12 : Ref sig .tc := ⟨.hbm, 48, rfl⟩
abbrev main_cst_2 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_3 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_4 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_call3_call0_cst : Ref sig .tc := ⟨.hbm, 72, rfl⟩
abbrev main_call3_call0_v0 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_c_5 : Ref sig .tc := ⟨.hbm, 77, rfl⟩
abbrev main_v36 : Ref sig .tc := ⟨.hbm, 78, rfl⟩
abbrev main_call4_v0 : Ref sig .tc := ⟨.hbm, 79, rfl⟩
abbrev main_call4_c : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_c_0 : Ref sig .tc := ⟨.hbm, 85, rfl⟩
abbrev main_call4_v5 : Ref sig .tc := ⟨.hbm, 86, rfl⟩
abbrev main_v37 : Ref sig .tc := ⟨.hbm, 87, rfl⟩
abbrev main_cst_6 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_v38 : Ref sig .tc := ⟨.hbm, 92, rfl⟩
abbrev main_call6_call0_cst : Ref sig .tc := ⟨.hbm, 93, rfl⟩
abbrev main_call6_call0_v0 : Ref sig .tc := ⟨.hbm, 94, rfl⟩
abbrev main_v39 : Ref sig .tc := ⟨.hbm, 95, rfl⟩
abbrev main_c_7 : Ref sig .tc := ⟨.hbm, 96, rfl⟩
abbrev main_v40 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_call7_c_0 : Ref sig .tc := ⟨.hbm, 104, rfl⟩
abbrev main_call7_v5 : Ref sig .tc := ⟨.hbm, 105, rfl⟩
abbrev main_v41 : Ref sig .tc := ⟨.hbm, 106, rfl⟩
abbrev main_cst_8 : Ref sig .tc := ⟨.hbm, 107, rfl⟩
abbrev main_call8_v0 : Ref sig .tc := ⟨.hbm, 108, rfl⟩
abbrev main_call8_v1 : Ref sig .tc := ⟨.hbm, 109, rfl⟩
abbrev main_call8_v2 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_cst_9 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_c_10 : Ref sig .tc := ⟨.hbm, 131, rfl⟩
abbrev main_call9_v0 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_c_11 : Ref sig .tc := ⟨.hbm, 136, rfl⟩
abbrev main_v64 : Ref sig .tc := ⟨.hbm, 137, rfl⟩
abbrev main_call10_v0 : Ref sig .tc := ⟨.hbm, 138, rfl⟩
abbrev main_call10_c : Ref sig .tc := ⟨.hbm, 139, rfl⟩
abbrev main_call10_v1 : Ref sig .tc := ⟨.hbm, 140, rfl⟩
abbrev main_call10_v2 : Ref sig .tc := ⟨.hbm, 141, rfl⟩
abbrev main_call10_v3 : Ref sig .tc := ⟨.hbm, 142, rfl⟩
abbrev main_call10_v4 : Ref sig .tc := ⟨.hbm, 143, rfl⟩
abbrev main_call10_c_0 : Ref sig .tc := ⟨.hbm, 144, rfl⟩
abbrev main_call10_v5 : Ref sig .tc := ⟨.hbm, 145, rfl⟩
abbrev main_v65 : Ref sig .tc := ⟨.hbm, 146, rfl⟩
abbrev main_cst_12 : Ref sig .tc := ⟨.hbm, 147, rfl⟩
abbrev main_call11_v0 : Ref sig .tc := ⟨.hbm, 148, rfl⟩
abbrev main_call11_v1 : Ref sig .tc := ⟨.hbm, 149, rfl⟩
abbrev main_call11_v2 : Ref sig .tc := ⟨.hbm, 150, rfl⟩
abbrev main_v66 : Ref sig .tc := ⟨.hbm, 151, rfl⟩
abbrev main_call12_call0_cst : Ref sig .tc := ⟨.hbm, 152, rfl⟩
abbrev main_call12_call0_v0 : Ref sig .tc := ⟨.hbm, 153, rfl⟩
abbrev main_v67 : Ref sig .tc := ⟨.hbm, 154, rfl⟩
abbrev main_c_13 : Ref sig .tc := ⟨.hbm, 155, rfl⟩
abbrev main_v68 : Ref sig .tc := ⟨.hbm, 156, rfl⟩
abbrev main_call13_v0 : Ref sig .tc := ⟨.hbm, 157, rfl⟩
abbrev main_call13_c : Ref sig .tc := ⟨.hbm, 158, rfl⟩
abbrev main_call13_v1 : Ref sig .tc := ⟨.hbm, 159, rfl⟩
abbrev main_call13_v2 : Ref sig .tc := ⟨.hbm, 160, rfl⟩
abbrev main_call13_v3 : Ref sig .tc := ⟨.hbm, 161, rfl⟩
abbrev main_call13_v4 : Ref sig .tc := ⟨.hbm, 162, rfl⟩
abbrev main_call13_c_0 : Ref sig .tc := ⟨.hbm, 163, rfl⟩
abbrev main_call13_v5 : Ref sig .tc := ⟨.hbm, 164, rfl⟩
abbrev main_v69 : Ref sig .tc := ⟨.hbm, 165, rfl⟩
abbrev main_cst_14 : Ref sig .tc := ⟨.hbm, 166, rfl⟩
abbrev main_call14_v0 : Ref sig .tc := ⟨.hbm, 167, rfl⟩
abbrev main_call14_v1 : Ref sig .tc := ⟨.hbm, 168, rfl⟩
abbrev main_call14_v2 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_call15_call0_c : Ref sig .tc := ⟨.hbm, 188, rfl⟩
abbrev main_call15_call0_v0 : Ref sig .tc := ⟨.hbm, 189, rfl⟩
abbrev main_v88 : Ref sig .tc := ⟨.hbm, 190, rfl⟩
abbrev main_c_15 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_call16_c : Ref sig .tc := ⟨.hbm, 196, rfl⟩
abbrev main_call16_v0 : Ref sig .tc := ⟨.hbm, 197, rfl⟩
abbrev main_call16_v1 : Ref sig .tc := ⟨.hbm, 198, rfl⟩
abbrev main_call16_c_0 : Ref sig .tc := ⟨.hbm, 199, rfl⟩
abbrev main_call16_v2 : Ref sig .tc := ⟨.hbm, 200, rfl⟩
abbrev main_call16_v3 : Ref sig .tc := ⟨.hbm, 201, rfl⟩
abbrev main_call16_v4 : Ref sig .tc := ⟨.hbm, 202, rfl⟩
abbrev main_call16_v5 : Ref sig .tc := ⟨.hbm, 203, rfl⟩
abbrev main_call16_c_1 : Ref sig .tc := ⟨.hbm, 204, rfl⟩
abbrev main_call16_c_2 : Ref sig .tc := ⟨.hbm, 205, rfl⟩
abbrev main_call16_v6 : Ref sig .tc := ⟨.hbm, 206, rfl⟩
abbrev main_call16_v7 : Ref sig .tc := ⟨.hbm, 207, rfl⟩
abbrev main_call16_v8 : Ref sig .tc := ⟨.hbm, 208, rfl⟩
abbrev main_call16_v9 : Ref sig .tc := ⟨.hbm, 209, rfl⟩
abbrev main_call16_v10 : Ref sig .tc := ⟨.hbm, 210, rfl⟩
abbrev main_call16_v11 : Ref sig .tc := ⟨.hbm, 211, rfl⟩
abbrev main_call16_c_3 : Ref sig .tc := ⟨.hbm, 212, rfl⟩
abbrev main_call16_v12 : Ref sig .tc := ⟨.hbm, 213, rfl⟩
abbrev main_call16_v13 : Ref sig .tc := ⟨.hbm, 214, rfl⟩
abbrev main_call16_cst : Ref sig .tc := ⟨.hbm, 215, rfl⟩
abbrev main_call16_v14 : Ref sig .tc := ⟨.hbm, 216, rfl⟩
abbrev main_v93 : Ref sig .tc := ⟨.hbm, 217, rfl⟩

abbrev nD : Nat := 1
abbrev τ : Topo := Topo.v7x

variable {F : FTy → Type} [FloatOps F]
-- ==== Proof.KernelIdealBody.lean ====
module

public import proofs.«01_k».proof.Proof.Gen.KernelIdeal.Frame
public import Idealize.ShloMosaic.Lib.Pipeline.FrameValue
public import Idealize.ShloMosaic.Lib.Ring
public import Idealize.ShloMosaic.Lib.ValueLayout
public import Idealize.ShloMosaic.Lib.Tactic

/-! The idealized kernel, at any float format. Its body: what each of the sixteen windows computes, as one step applied again and again, and the run
    of the body with every transfer, which leaves each window of the result at its step's value. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ (Pipeline.UD sig nD τ) ℕ

/-! ## The step -/

/-- The clipped boundary probability of a window. -/
def stepP (ps : FVec F S1x256 .f32) : FVec F S1x256 .f32 :=
  minimumf (broadcast S1x256 (Scalar.ofBits .f32 0x3F7FF972#32)) (maximumf (broadcast S1x256 (Scalar.ofBits .f32 0x38D1B717#32)) ps)

/-- The step length of each row, `log (1 / (1 - p))`. -/
def stepDt (p : FVec F S1x256 .f32) : FVec F S1x256 .f32 :=
  log (divf (broadcast S1x256 (Scalar.ofBits .f32 0x3F800000#32)) (subf (broadcast S1x256 (Scalar.ofBits .f32 0x3F800000#32)) p))

/-- The running sums of the negated step lengths: a product with the lower triangle of ones. -/
def stepRow (v1 : FVec F S256x256 .f32) (dt : FVec F S1x256 .f32) : FVec F S256x1 .f32 :=
  matmul dot_S256x256_S256x1_S256x1_1_0_0_1_n_n none v1
    (shapeCast S256x1 (subf (broadcast S1x256 (Scalar.ofBits .f32 0x00000000#32)) dt) shapeCasts_S1x256_S256x1)
    (constant S256x1 .f32 0x00000000#32)

/-- The matrix a window multiplies its rows by: the triangle times the decay between two rows times the gain of the earlier one. -/
def stepDecay (v1 : FVec F S256x256 .f32) (row : FVec F S256x1 .f32) (g : FVec F S1x256 .f32) : FVec F S256x256 .bf16 :=
  truncf .bf16 (mulf (mulf v1 (exp (minimumf
      (subf (broadcastTo S256x256 row broadcasts_S256x1_S256x256)
        (broadcastTo S256x256 (shapeCast S1x256 row shapeCasts_S256x1_S1x256) broadcasts_S1x256_S256x256))
      (broadcast S256x256 (Scalar.ofBits .f32 0x00000000#32)))))
    (broadcastTo S256x256 g broadcasts_S1x256_S256x256)) bitsLt_bf16_f32

/-- What a window writes, of the triangle, the raw probabilities of its rows, the last row of the window before, and its rows. -/
def stepY (v1 : FVec F S256x256 .f32) (ps : FVec F S1x256 .f32) (carry : FVec F S1x1024 .f32) (x : FVec F S256x1024 .f32) : FVec F S256x1024 .f32 :=
  addf
    (matmul dot_S256x256_S256x1024_S256x1024_1_0_0_1_n_n none
      (stepDecay v1 (stepRow v1 (stepDt (stepP ps))) (divf (stepP ps) (stepDt (stepP ps))))
      (truncf .bf16 x bitsLt_bf16_f32) (constant S256x1024 .f32 0x00000000#32))
    (mulf (broadcastTo S256x1024 (exp (stepRow v1 (stepDt (stepP ps)))) broadcasts_S256x1_S256x1024)
      (broadcastTo S256x1024 carry broadcasts_S1x1024_S256x1024))

/-- The `j`-th 256 probabilities of a batch. -/
def pSlice (P : FVec F S1x2048 .f32) (j : ℕ) (hj : j < 8) : FVec F S1x256 .f32 :=
  extractStridedSlice S1x256 ![0, 256 * j] P
    ⟨rfl, fun a => match a with | ⟨0, _⟩ => Nat.le_refl 1 | ⟨1, _⟩ => (by show 256 * j + 256 ≤ 2048; omega)⟩

/-- The windows of one batch: each takes the last row of the one before, the first takes zero. -/
def batchY (v1 : FVec F S256x256 .f32) (P : FVec F S1x2048 .f32) (X : (j : ℕ) → j < 8 → FVec F S256x1024 .f32) : (j : ℕ) → j < 8 → FVec F S256x1024 .f32
  | 0, h => stepY v1 (pSlice P 0 h) (broadcast S1x1024 (Scalar.ofBits .f32 0x00000000#32)) (X 0 h)
  | j + 1, h => stepY v1 (pSlice P (j + 1) h)
      (extractStridedSlice S1x1024 ![255, 0] (batchY v1 P X j (Nat.lt_of_succ_lt h)) slices_S256x1024_o255_0_S1x1024) (X (j + 1) h)

/-! ## The pieces of the buffers -/

/-- The contents of memref `M`'s buffer on core `c`. -/
abbrev Bf (c : Dev nD) {sp : Space} {S : Shape} {e : EltTy} (M : Memref sig .tc sp S e) : Type := Buf (Elt F) (M.view.loc (c : Thread nD τ))
/-- The elements of `M`'s own view, held at `f`. -/
abbrev own (c : Dev nD) {sp : Space} {S : Shape} {e : EltTy} (M : Memref sig .tc sp S e) (f : Bf (F := F) c M) : sProp 𝕄 :=
  M.view.loc (c : Thread nD τ) ↦[M.view.set]{fullShare} f
/-- The elements of `M`'s buffer under the rectangle `R`, held at `f`. -/
abbrev piece (c : Dev nD) {sp : Space} {S : Shape} {e : EltTy} (M : Memref sig .tc sp S e) (R : Rect S) (f : Bf (F := F) c M) : sProp 𝕄 :=
  M.view.loc (c : Thread nD τ) ↦[M.view.setOn R.set]{fullShare} f

/-- The hidden states, whole. -/
abbrev hM : Memref sig .tc .hbm S2x2048x1024 .f32 := Memref.whole main_arg0
/-- The result, whole. -/
abbrev oM : Memref sig .tc .hbm S2x2048x1024 .f32 := Memref.whole main_v8
/-- The ring of slots for the hidden states, whole. -/
abbrev bM : Memref sig .tc .vmem S16x256x1024 .f32 := Memref.whole cc0_scratch0
/-- The ring of slots for the result, whole. -/
abbrev yM : Memref sig .tc .vmem S16x256x1024 .f32 := Memref.whole cc0_scratch1

/-- 256 rows of batch `b` from row `j` on. -/
abbrev aRect (b j : ℕ) (h : ∀ a, (![b, j, 0] : Fin 3 → ℕ) a + S1x256x1024.size a ≤ S2x2048x1024.size a) : Rect S2x2048x1024 :=
  Rect.unit (s := S2x2048x1024) ![b, j, 0] S1x256x1024.size h
/-- Slot `w` of a ring. -/
abbrev sRect (w : ℕ) (h : ∀ a, (![w, 0, 0] : Fin 3 → ℕ) a + S1x256x1024.size a ≤ S16x256x1024.size a) : Rect S16x256x1024 :=
  Rect.unit (s := S16x256x1024) ![w, 0, 0] S1x256x1024.size h

/-- Window `w`'s rows lie in the array. -/
theorem aR_inb (w : Fin 16) : ∀ a, (![w.val / 8, 256 * (w.val % 8), 0] : Fin 3 → ℕ) a + S1x256x1024.size a ≤ S2x2048x1024.size a := fun a => by
  have hw := w.isLt
  match a with
  | ⟨0, _⟩ => show w.val / 8 + 1 ≤ 2; omega
  | ⟨1, _⟩ => show 256 * (w.val % 8) + 256 ≤ 2048; omega
  | ⟨2, _⟩ => exact Nat.le_refl 1024

/-- Slot `w` lies in the ring. -/
theorem sR_inb (w : Fin 16) : ∀ a, (![w.val, 0, 0] : Fin 3 → ℕ) a + S1x256x1024.size a ≤ S16x256x1024.size a := fun a => by
  have hw := w.isLt
  match a with
  | ⟨0, _⟩ => show w.val + 1 ≤ 16; omega
  | ⟨1, _⟩ => exact Nat.le_refl 256
  | ⟨2, _⟩ => exact Nat.le_refl 1024

/-- Window `w`'s rows in the arrays. -/
abbrev aR (w : Fin 16) : Rect S2x2048x1024 := aRect (w.val / 8) (256 * (w.val % 8)) (aR_inb w)
/-- Window `w`'s slot in the rings. -/
abbrev sR (w : Fin 16) : Rect S16x256x1024 := sRect w.val (sR_inb w)

/-- A window's rows follow one another, -/
theorem aR_stride (w : Fin 16) : ∀ a, (aR w).stride a = 1 := fun _ => rfl
/-- and so do a slot's. -/
theorem sR_stride (w : Fin 16) : ∀ a, (sR w).stride a = 1 := fun _ => rfl
/-- A slice of one window, its unit axis dropped, is a matrix of 256 rows. -/
theorem sq : (⟨3, S1x256x1024.size⟩ : Shape).Squeezes S256x1024 := by decide

/-- Two different windows share no element of an array, -/
theorem aR_disjoint (w w' : Fin 16) (h : w ≠ w') : Disjoint (aR w).set (aR w').set := by
  rw [Finset.disjoint_left]
  intro i hi hi'
  rw [Rect.mem_set_unit] at hi hi'
  have a0 := hi 0; have a1 := hi 1; have b0 := hi' 0; have b1 := hi' 1
  change w.val / 8 ≤ (i 0).val ∧ (i 0).val < w.val / 8 + 1 at a0
  change w'.val / 8 ≤ (i 0).val ∧ (i 0).val < w'.val / 8 + 1 at b0
  change 256 * (w.val % 8) ≤ (i 1).val ∧ (i 1).val < 256 * (w.val % 8) + 256 at a1
  change 256 * (w'.val % 8) ≤ (i 1).val ∧ (i 1).val < 256 * (w'.val % 8) + 256 at b1
  exact h (Fin.ext (by omega))

/-- and together the windows are the whole array. -/
theorem aR_cover : (Finset.univ : Finset (Fin 16)).biUnion (fun w => (aR w).set) = Finset.univ := by
  refine Finset.eq_univ_iff_forall.mpr fun i => Finset.mem_biUnion.mpr ?_
  have h0 : (i 0).val < 2 := (i 0).isLt
  have h1 : (i 1).val < 2048 := (i 1).isLt
  have h2 : (i 2).val < 1024 := (i 2).isLt
  refine ⟨⟨8 * (i 0).val + (i 1).val / 256, by omega⟩, Finset.mem_univ _, Rect.mem_set_unit.mpr fun a => ?_⟩
  match a with
  | ⟨0, _⟩ => show (8 * (i 0).val + (i 1).val / 256) / 8 ≤ (i 0).val ∧ (i 0).val < (8 * (i 0).val + (i 1).val / 256) / 8 + 1; omega
  | ⟨1, _⟩ => show 256 * ((8 * (i 0).val + (i 1).val / 256) % 8) ≤ (i 1).val ∧ (i 1).val < 256 * ((8 * (i 0).val + (i 1).val / 256) % 8) + 256; omega
  | ⟨2, _⟩ => show 0 ≤ (i 2).val ∧ (i 2).val < 0 + 1024; omega

/-- Two different slots of a ring share no element, -/
theorem sR_disjoint (w w' : Fin 16) (h : w ≠ w') : Disjoint (sR w).set (sR w').set := by
  rw [Finset.disjoint_left]
  intro i hi hi'
  rw [Rect.mem_set_unit] at hi hi'
  have a0 := hi 0; have b0 := hi' 0
  change w.val ≤ (i 0).val ∧ (i 0).val < w.val + 1 at a0
  change w'.val ≤ (i 0).val ∧ (i 0).val < w'.val + 1 at b0
  exact h (Fin.ext (by omega))

/-- and together the slots are the whole ring. -/
theorem sR_cover : (Finset.univ : Finset (Fin 16)).biUnion (fun w => (sR w).set) = Finset.univ := by
  refine Finset.eq_univ_iff_forall.mpr fun i => Finset.mem_biUnion.mpr ?_
  have h0 : (i 0).val < 16 := (i 0).isLt
  have h1 : (i 1).val < 256 := (i 1).isLt
  have h2 : (i 2).val < 1024 := (i 2).isLt
  refine ⟨⟨(i 0).val, h0⟩, Finset.mem_univ _, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 256; omega
  | ⟨2, _⟩ => show 0 ≤ (i 2).val ∧ (i 2).val < 0 + 1024; omega

/-! ## The windows one by one -/

/-- A separating conjunction over the windows' rows, one by one at their literal offsets. -/
theorem chainA (P : Rect S2x2048x1024 → sProp 𝕄) : bigSep Finset.univ (fun w : Fin 16 => P (aR w))
    = iprop(P (aRect 0 0 inb_S2x2048x1024_S1x256x1024_0_0_0) ∗ P (aRect 0 256 inb_S2x2048x1024_S1x256x1024_0_256_0) ∗ P (aRect 0 512 inb_S2x2048x1024_S1x256x1024_0_512_0) ∗ P (aRect 0 768 inb_S2x2048x1024_S1x256x1024_0_768_0) ∗ P (aRect 0 1024 inb_S2x2048x1024_S1x256x1024_0_1024_0) ∗ P (aRect 0 1280 inb_S2x2048x1024_S1x256x1024_0_1280_0) ∗ P (aRect 0 1536 inb_S2x2048x1024_S1x256x1024_0_1536_0) ∗ P (aRect 0 1792 inb_S2x2048x1024_S1x256x1024_0_1792_0) ∗ P (aRect 1 0 inb_S2x2048x1024_S1x256x1024_1_0_0) ∗ P (aRect 1 256 inb_S2x2048x1024_S1x256x1024_1_256_0) ∗ P (aRect 1 512 inb_S2x2048x1024_S1x256x1024_1_512_0) ∗ P (aRect 1 768 inb_S2x2048x1024_S1x256x1024_1_768_0) ∗ P (aRect 1 1024 inb_S2x2048x1024_S1x256x1024_1_1024_0) ∗ P (aRect 1 1280 inb_S2x2048x1024_S1x256x1024_1_1280_0) ∗ P (aRect 1 1536 inb_S2x2048x1024_S1x256x1024_1_1536_0) ∗ P (aRect 1 1792 inb_S2x2048x1024_S1x256x1024_1_1792_0)) := by
  rw [bigSep_univ_eq_bigSepL [0, 1, 2, 3, 4, 5, 6, 7, 8, 9, 10, 11, 12, 13, 14, 15] (by decide) (by decide)]
  rfl

/-- The same over the slots of a ring. -/
theorem chainS (P : Rect S16x256x1024 → sProp 𝕄) : bigSep Finset.univ (fun w : Fin 16 => P (sR w))
    = iprop(P (sRect 0 inb_S16x256x1024_S1x256x1024_0_0_0) ∗ P (sRect 1 inb_S16x256x1024_S1x256x1024_1_0_0) ∗ P (sRect 2 inb_S16x256x1024_S1x256x1024_2_0_0) ∗ P (sRect 3 inb_S16x256x1024_S1x256x1024_3_0_0) ∗ P (sRect 4 inb_S16x256x1024_S1x256x1024_4_0_0) ∗ P (sRect 5 inb_S16x256x1024_S1x256x1024_5_0_0) ∗ P (sRect 6 inb_S16x256x1024_S1x256x1024_6_0_0) ∗ P (sRect 7 inb_S16x256x1024_S1x256x1024_7_0_0) ∗ P (sRect 8 inb_S16x256x1024_S1x256x1024_8_0_0) ∗ P (sRect 9 inb_S16x256x1024_S1x256x1024_9_0_0) ∗ P (sRect 10 inb_S16x256x1024_S1x256x1024_10_0_0) ∗ P (sRect 11 inb_S16x256x1024_S1x256x1024_11_0_0) ∗ P (sRect 12 inb_S16x256x1024_S1x256x1024_12_0_0) ∗ P (sRect 13 inb_S16x256x1024_S1x256x1024_13_0_0) ∗ P (sRect 14 inb_S16x256x1024_S1x256x1024_14_0_0) ∗ P (sRect 15 inb_S16x256x1024_S1x256x1024_15_0_0)) := by
  rw [bigSep_univ_eq_bigSepL [0, 1, 2, 3, 4, 5, 6, 7, 8, 9, 10, 11, 12, 13, 14, 15] (by decide) (by decide)]
  rfl

/-! ## What the transfers carry -/

/-- The rows of window `w` as the hidden states hold them. -/
def rows (c : Dev nD) (fh : Bf (F := F) c hM) (w : Fin 16) : FVec F S256x1024 .f32 :=
  View.read (Elt F) ((hM.slice (aR w) (aR_stride w)).squeeze S256x1024 sq).view fh

/-- The rows of window `w` as the body loads them from their slot after the transfer. -/
def landed (c : Dev nD) (fh : Bf (F := F) c hM) (fb : Bf (F := F) c bM) (w : Fin 16) : FVec F S256x1024 .f32 :=
  shapeCast S256x1024 (View.readAt (Elt F) bM.view (sR w).toLoadRect
    (View.write (Elt F) ((bM.slice (sR w) (sR_stride w)).squeeze S256x1024 sq).view fb (rows c fh w) Finset.univ)) shapeCasts_S1x256x1024_S256x1024

/-- They are the same rows. -/
theorem landed_eq (c : Dev nD) (fh : Bf (F := F) c hM) (fb : Bf (F := F) c bM) (w : Fin 16) : landed c fh fb w = rows c fh w :=
  View.read_write_univ (v := ((bM.slice (sR w) (sR_stride w)).squeeze S256x1024 sq).view) fb (rows c fh w)

/-- A slot written with a window's rows reads, through the transfer's view of it, as those rows. -/
theorem sent_eq (c : Dev nD) (fy : Bf (F := F) c yM) (w : Fin 16) (y : FVec F S256x1024 .f32) :
    View.read (Elt F) ((yM.slice (sR w) (sR_stride w)).squeeze S256x1024 sq).view
      (yM.view.writes (Elt F) fy [⟨sR w, shapeCast S1x256x1024 y shapeCasts_S256x1024_S1x256x1024⟩]) = y := by
  show shapeCast S256x1024 (View.read (Elt F) (yM.view.slice (sR w)) (View.write (Elt F) (yM.view.slice (sR w)) fy
    (shapeCast S1x256x1024 y shapeCasts_S256x1024_S1x256x1024) Finset.univ)) shapeCasts_S1x256x1024_S256x1024 = y
  rw [View.read_write_univ]
  exact shapeCast_shapeCast y _ _

/-- Where the transfer's view of window `w` puts row `r`, column `k`. -/
theorem out_emb (w : Fin 16) (z : S256x1024.Idx) :
    ((oM.slice (aR w) (aR_stride w)).squeeze S256x1024 sq).view.emb z
      = ix3 (⟨w.val / 8, by omega⟩ : Fin 2) (⟨256 * (w.val % 8) + (z 0).val, by have : (z 0).val < 256 := (z 0).isLt; omega⟩ : Fin 2048) (⟨(z 1).val, (z 1).isLt⟩ : Fin 1024) := by
  show (aR w).emb (Shape.reshapeEquiv _ z) = _
  conv_lhs => rw [eq_ix2 z]
  erw [ValueIdx.reshapeEquiv_ix2_1ab]
  funext a
  refine Fin.ext ?_
  match a with
  | ⟨0, _⟩ => show w.val / 8 + 1 * 0 = w.val / 8; omega
  | ⟨1, _⟩ => show 256 * (w.val % 8) + 1 * (z 0).val = 256 * (w.val % 8) + (z 0).val; omega
  | ⟨2, _⟩ => show 0 + 1 * (z 1).val = (z 1).val; omega

/-- Every element under a window is under the transfer's view of it. -/
theorem exists_out_emb (w : Fin 16) (i : S2x2048x1024.Idx) (h : i ∈ oM.view.setOn (aR w).set) :
    ∃ z : S256x1024.Idx, ((oM.slice (aR w) (aR_stride w)).squeeze S256x1024 sq).view.emb z = i := by
  have e : ((oM.slice (aR w) (aR_stride w)).squeeze S256x1024 sq).view.set = oM.view.setOn (aR w).set :=
    (View.set_reshape _ _).trans (View.set_slice _ _)
  obtain ⟨z, -, hz⟩ := Finset.mem_map.mp ((Finset.ext_iff.mp e i).mpr h)
  exact ⟨z, hz⟩

/-- The result array, of the sixteen windows' values. -/
def outOf (Y : Fin 16 → FVec F S256x1024 .f32) : S2x2048x1024.Idx → F .f32 := fun i =>
  Y ⟨8 * (i 0).val + (i 1).val / 256, by have h0 : (i 0).val < 2 := (i 0).isLt; have h1 : (i 1).val < 2048 := (i 1).isLt; omega⟩
    (ix2 (⟨(i 1).val % 256, Nat.mod_lt _ (by decide)⟩ : Fin 256) (⟨(i 2).val, (i 2).isLt⟩ : Fin 1024))

/-- A window of the result after its transfer holds that window of `outOf`. -/
theorem out_piece (c : Dev nD) (w : Fin 16) (Y : Fin 16 → FVec F S256x1024 .f32) (fo : Bf (F := F) c oM) (fy : Bf (F := F) c yM) :
    piece c oM (aR w) (View.write (Elt F) ((oM.slice (aR w) (aR_stride w)).squeeze S256x1024 sq).view fo
      (View.read (Elt F) ((yM.slice (sR w) (sR_stride w)).squeeze S256x1024 sq).view
        (yM.view.writes (Elt F) fy [⟨sR w, shapeCast S1x256x1024 (Y w) shapeCasts_S256x1024_S1x256x1024⟩])) Finset.univ)
      ⊢ piece c oM (aR w) (outOf Y) := by
  rw [sent_eq]
  refine (pointsTo_congr fun i hi => ?_).le
  obtain ⟨z, rfl⟩ := exists_out_emb w i hi
  have e := congrFun (View.read_write_univ (v := ((oM.slice (aR w) (aR_stride w)).squeeze S256x1024 sq).view) fo (Y w)) z
  refine Eq.trans e ?_
  erw [out_emb w z]
  have hz : (z 0).val < 256 := (z 0).isLt
  have hw := w.isLt
  have ew : w = (⟨8 * (w.val / 8) + (256 * (w.val % 8) + (z 0).val) / 256, by omega⟩ : Fin 16) := Fin.ext (by show w.val = 8 * (w.val / 8) + (256 * (w.val % 8) + (z 0).val) / 256; omega)
  have ez : z = ix2 (⟨(256 * (w.val % 8) + (z 0).val) % 256, Nat.mod_lt _ (by decide)⟩ : Fin 256) (⟨(z 1).val, (z 1).isLt⟩ : Fin 1024) := by
    funext a
    refine Fin.ext ?_
    match a with
    | ⟨0, _⟩ => show (z 0).val = (256 * (w.val % 8) + (z 0).val) % 256; omega
    | ⟨1, _⟩ => rfl
  exact congr (congrArg Y ew) ez

/-! ## The windows' values -/

/-- Batch `b`'s probabilities out of the staged block. -/
def probs (d : S2x1x2048.Idx → F .f32) (b : ℕ) (hb : b < 2) : FVec F S1x2048 .f32 :=
  shapeCast S1x2048 (fun x : S1x1x2048.Idx => d ((Rect.unit (s := S2x1x2048) ![b, 0, 0] S1x1x2048.size
    (fun a => match a with
      | ⟨0, _⟩ => (by show b + 1 ≤ 2; omega) | ⟨1, _⟩ => Nat.le_refl 1 | ⟨2, _⟩ => Nat.le_refl 2048)).toLoadRect.idx x)) shapeCasts_S1x1x2048_S1x2048

/-- The triangle out of its staged block. -/
def tri (d : S256x256.Idx → F .f32) : FVec F S256x256 .f32 :=
  shapeCast S256x256 (fun x : S256x256.Idx => d ((Rect.unit (s := S256x256) ![0, 0] S256x256.size
    (fun a => match a with | ⟨0, _⟩ => Nat.le_refl 256 | ⟨1, _⟩ => Nat.le_refl 256)).toLoadRect.idx x)) shapeCasts_S256x256_S256x256

/-- The value of window `w`, of the triangle, the probabilities of the two batches and the rows of every window. -/
def winY (v1 : FVec F S256x256 .f32) (P : (b : ℕ) → b < 2 → FVec F S1x2048 .f32) (X : Fin 16 → FVec F S256x1024 .f32) (w : Fin 16) : FVec F S256x1024 .f32 :=
  batchY v1 (P (w.val / 8) (by omega)) (fun j hj => X ⟨8 * (w.val / 8) + j, by omega⟩) (w.val % 8) (by omega)

/-! ## The run of the body -/

/-- The kernel's own semaphores: the two rings of transfer counters, 2 to 33 of the pool. -/
def osem0 : Fin 32 → SemLoc sig := fun k => SemLoc.dma ⟨k.val + 2, by have := k.isLt; show k.val + 2 < 34; omega⟩

/-- The kernel's own semaphores, one by one. -/
theorem ownSems00_eq (c : Dev nD) : (Pipeline.ownSems0 (τ := τ) (Ix := Unit) (Val := Elt F) (Name := ℕ) (U := Pipeline.UD sig nD τ) (Lvl := ℕ) osem0 c : sProp 𝕄)
    = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)]
  rfl

/-- The body, from its two staged operands, the windows of the hidden states and of the result, the slots of both rings and
    every transfer counter at zero: it gives everything back, each window of the result at its value. -/
theorem body_run (c : Dev nD) (M0 : Memref sig .tc .vmem S256x256 .f32) (h0 : M0.IsWhole) (M1 : Memref sig .tc .vmem S2x1x2048 .f32) (h1 : M1.IsWhole)
    (f0 : Bf (F := F) c M0) (f1 : Bf (F := F) c M1) (fh : Bf (F := F) c hM) (fo : Bf (F := F) c oM) (fb : Bf (F := F) c bM) (fy : Bf (F := F) c yM)
    (W : Waits sig Unit) (Q : PUnit → sProp 𝕄) :
    iprop(own c M0 f0 ∗ own c M1 f1
      ∗ bigSep Finset.univ (fun w : Fin 16 => piece c hM (aR w) fh)
      ∗ bigSep Finset.univ (fun w : Fin 16 => piece c oM (aR w) fo)
      ∗ bigSep Finset.univ (fun w : Fin 16 => piece c bM (sR w) fb)
      ∗ bigSep Finset.univ (fun w : Fin 16 => piece c yM (sR w) fy)
      ∗ Pipeline.ownSems0 osem0 c
      ∗ owes (c : Thread nD τ) 0 W
      ∗ (iprop(own c M0 f0 ∗ own c M1 f1
          ∗ bigSep Finset.univ (fun w : Fin 16 => piece c hM (aR w) fh)
          ∗ bigSep Finset.univ (fun w : Fin 16 => piece c oM (aR w) (outOf (winY (tri (M0.view.read (Elt F) f0)) (probs (M1.view.read (Elt F) f1)) (rows c fh))))
          ∗ bigSep Finset.univ (fun w : Fin 16 => iprop(∃ f, piece c bM (sR w) f))
          ∗ bigSep Finset.univ (fun w : Fin 16 => iprop(∃ f, piece c yM (sR w) f))
          ∗ Pipeline.ownSems0 osem0 c
          ∗ ∃ W', owes (c : Thread nD τ) 0 W') -∗ Q ⟨⟩))
    ⊢ wp frame (wpE (defs₀ (F := F)) Variants.none (c : Thread nD τ) none) Set.univ
      (cc0__ema_pipelined M0 h0 M1 h1 hM (Memref.isWhole_whole _) oM (Memref.isWhole_whole _) bM (Memref.isWhole_whole _) yM (Memref.isWhole_whole _) cc0_scratch2 cc0_scratch3) Q := by
  rw [chainA (fun R => piece c hM R fh), chainA (fun R => piece c oM R fo), chainS (fun R => piece c bM R fb), chainS (fun R => piece c yM R fy), ownSems00_eq]
  have hX : rows c fh = landed c fh fb := funext fun w => (landed_eq c fh fb w).symm
  rw [hX]
  rw [chainA (fun R => piece c oM R (outOf (winY (tri (M0.view.read (Elt F) f0)) (probs (M1.view.read (Elt F) f1)) (landed c fh fb)))),
    chainS (fun R => iprop(∃ f, piece c bM R f)), chainS (fun R => iprop(∃ f, piece c yM R f))]
  iintro ⟨H0, H1, ⟨A0, A1, A2, A3, A4, A5, A6, A7, A8, A9, A10, A11, A12, A13, A14, A15⟩, ⟨O0, O1, O2, O3, O4, O5, O6, O7, O8, O9, O10, O11, O12, O13, O14, O15⟩, ⟨B0, B1, B2, B3, B4, B5, B6, B7, B8, B9, B10, B11, B12, B13, B14, B15⟩, ⟨Y0, Y1, Y2, Y3, Y4, Y5, Y6, Y7, Y8, Y9, Y10, Y11, Y12, Y13, Y14, Y15⟩, ⟨S2, S3, S4, S5, S6, S7, S8, S9, S10, S11, S12, S13, S14, S15, S16, S17, S18, S19, S20, S21, S22, S23, S24, S25, S26, S27, S28, S29, S30, S31, S32, S33⟩, HW, Hk⟩
  sl_exec_parts
  sl_step
  iapply Hk
  isplitl [H0]; · iexact H0
  isplitl [H1]; · iexact H1
  isplitl [A0 A1 A2 A3 A4 A5 A6 A7 A8 A9 A10 A11 A12 A13 A14 A15]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  isplitl [O0 O1 O2 O3 O4 O5 O6 O7 O8 O9 O10 O11 O12 O13 O14 O15]
  · isplitl [O0]; · iapply (out_piece c 0 (winY (tri (M0.view.read (Elt F) f0)) (probs (M1.view.read (Elt F) f1)) (landed c fh fb)) fo fy); iexact O0
    isplitl [O1]; · iapply (out_piece c 1 (winY (tri (M0.view.read (Elt F) f0)) (probs (M1.view.read (Elt F) f1)) (landed c fh fb)) fo fy); iexact O1
    isplitl [O2]; · iapply (out_piece c 2 (winY (tri (M0.view.read (Elt F) f0)) (probs (M1.view.read (Elt F) f1)) (landed c fh fb)) fo fy); iexact O2
    isplitl [O3]; · iapply (out_piece c 3 (winY (tri (M0.view.read (Elt F) f0)) (probs (M1.view.read (Elt F) f1)) (landed c fh fb)) fo fy); iexact O3
    isplitl [O4]; · iapply (out_piece c 4 (winY (tri (M0.view.read (Elt F) f0)) (probs (M1.view.read (Elt F) f1)) (landed c fh fb)) fo fy); iexact O4
    isplitl [O5]; · iapply (out_piece c 5 (winY (tri (M0.view.read (Elt F) f0)) (probs (M1.view.read (Elt F) f1)) (landed c fh fb)) fo fy); iexact O5
    isplitl [O6]; · iapply (out_piece c 6 (winY (tri (M0.view.read (Elt F) f0)) (probs (M1.view.read (Elt F) f1)) (landed c fh fb)) fo fy); iexact O6
    isplitl [O7]; · iapply (out_piece c 7 (winY (tri (M0.view.read (Elt F) f0)) (probs (M1.view.read (Elt F) f1)) (landed c fh fb)) fo fy); iexact O7
    isplitl [O8]; · iapply (out_piece c 8 (winY (tri (M0.view.read (Elt F) f0)) (probs (M1.view.read (Elt F) f1)) (landed c fh fb)) fo fy); iexact O8
    isplitl [O9]; · iapply (out_piece c 9 (winY (tri (M0.view.read (Elt F) f0)) (probs (M1.view.read (Elt F) f1)) (landed c fh fb)) fo fy); iexact O9
    isplitl [O10]; · iapply (out_piece c 10 (winY (tri (M0.view.read (Elt F) f0)) (probs (M1.view.read (Elt F) f1)) (landed c fh fb)) fo fy); iexact O10
    isplitl [O11]; · iapply (out_piece c 11 (winY (tri (M0.view.read (Elt F) f0)) (probs (M1.view.read (Elt F) f1)) (landed c fh fb)) fo fy); iexact O11
    isplitl [O12]; · iapply (out_piece c 12 (winY (tri (M0.view.read (Elt F) f0)) (probs (M1.view.read (Elt F) f1)) (landed c fh fb)) fo fy); iexact O12
    isplitl [O13]; · iapply (out_piece c 13 (winY (tri (M0.view.read (Elt F) f0)) (probs (M1.view.read (Elt F) f1)) (landed c fh fb)) fo fy); iexact O13
    isplitl [O14]; · iapply (out_piece c 14 (winY (tri (M0.view.read (Elt F) f0)) (probs (M1.view.read (Elt F) f1)) (landed c fh fb)) fo fy); iexact O14
    iapply (out_piece c 15 (winY (tri (M0.view.read (Elt F) f0)) (probs (M1.view.read (Elt F) f1)) (landed c fh fb)) fo fy); iexact O15
  isplitl [B0 B1 B2 B3 B4 B5 B6 B7 B8 B9 B10 B11 B12 B13 B14 B15]
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexists _; iexact B7
    isplitl [B8]; · iexists _; iexact B8
    isplitl [B9]; · iexists _; iexact B9
    isplitl [B10]; · iexists _; iexact B10
    isplitl [B11]; · iexists _; iexact B11
    isplitl [B12]; · iexists _; iexact B12
    isplitl [B13]; · iexists _; iexact B13
    isplitl [B14]; · iexists _; iexact B14
    iexists _
    iexact B15
  isplitl [Y0 Y1 Y2 Y3 Y4 Y5 Y6 Y7 Y8 Y9 Y10 Y11 Y12 Y13 Y14 Y15]
  · isplitl [Y0]; · iexists _; iexact Y0
    isplitl [Y1]; · iexists _; iexact Y1
    isplitl [Y2]; · iexists _; iexact Y2
    isplitl [Y3]; · iexists _; iexact Y3
    isplitl [Y4]; · iexists _; iexact Y4
    isplitl [Y5]; · iexists _; iexact Y5
    isplitl [Y6]; · iexists _; iexact Y6
    isplitl [Y7]; · iexists _; iexact Y7
    isplitl [Y8]; · iexists _; iexact Y8
    isplitl [Y9]; · iexists _; iexact Y9
    isplitl [Y10]; · iexists _; iexact Y10
    isplitl [Y11]; · iexists _; iexact Y11
    isplitl [Y12]; · iexists _; iexact Y12
    isplitl [Y13]; · iexists _; iexact Y13
    isplitl [Y14]; · iexists _; iexact Y14
    iexists _
    iexact Y15
  isplitl [S2 S3 S4 S5 S6 S7 S8 S9 S10 S11 S12 S13 S14 S15 S16 S17 S18 S19 S20 S21 S22 S23 S24 S25 S26 S27 S28 S29 S30 S31 S32 S33]
  · isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    iexact S33
  iexists _; iexact HW

end Cert.KernelIdeal.Hand
end
-- ==== Proof.KernelIdealLaunch.lean ====
module

public import proofs.«01_k».proof.Proof.KernelIdealBody

/-! The idealized kernel, at any float format. Its launch: the body's run set between the staged operands and the buffers it copies by itself, the run of
    the whole program, its frame and the contents of its result. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Whole buffers as their pieces -/

/-- Disjoint rectangles lie disjoint under a view. -/
theorem setOn_disjoint {sp : Space} {S : Shape} {e : EltTy} (M : Memref sig .tc sp S e) (R : Fin 16 → Rect S)
    (hd : ∀ w w', w ≠ w' → Disjoint (R w).set (R w').set) (w w' : Fin 16) (h : w ≠ w') : Disjoint (M.view.setOn (R w).set) (M.view.setOn (R w').set) :=
  (Finset.disjoint_map M.view.emb).mpr (hd w w' h)

/-- Rectangles covering a shape cover, under a view that is a whole buffer, that buffer. -/
theorem setOn_cover {sp : Space} {S : Shape} {e : EltTy} (M : Memref sig .tc sp S e) (hM : M.view.set = Finset.univ) (R : Fin 16 → Rect S)
    (hc : (Finset.univ : Finset (Fin 16)).biUnion (fun w => (R w).set) = Finset.univ) :
    (Finset.univ : Finset (Fin 16)).biUnion (fun w => M.view.setOn (R w).set) = Finset.univ := by
  refine Finset.eq_univ_iff_forall.mpr fun i => Finset.mem_biUnion.mpr ?_
  obtain ⟨z, -, rfl⟩ := Finset.mem_map.mp (Finset.eq_univ_iff_forall.mp hM i)
  obtain ⟨w, hw, hz⟩ := Finset.mem_biUnion.mp (Finset.eq_univ_iff_forall.mp hc z)
  exact ⟨w, hw, Finset.mem_map_of_mem _ hz⟩

/-- A whole buffer is its sixteen pieces. -/
theorem whole_split (c : Dev nD) {sp : Space} {S : Shape} {e : EltTy} (M : Memref sig .tc sp S e) (hM : M.view.set = Finset.univ) (R : Fin 16 → Rect S)
    (hd : ∀ w w', w ≠ w' → Disjoint (R w).set (R w').set) (hc : (Finset.univ : Finset (Fin 16)).biUnion (fun w => (R w).set) = Finset.univ)
    (f : Bf (F := F) c M) :
    (M.view.loc (c : Thread nD τ) ↦{fullShare} f : sProp 𝕄) = bigSep Finset.univ (fun w : Fin 16 => piece c M (R w) f) :=
  Ring.pointsTo_blocks (Ix := Unit) (Name := ℕ) (U := Pipeline.UD sig nD τ) (Lvl := ℕ) (q := fullShare) (ℓ := M.view.loc (c : Thread nD τ))
    (fun w : Fin 16 => M.view.setOn (R w).set) (setOn_disjoint M R hd) (setOn_cover M hM R hc) f

/-- Its sixteen pieces, each at some contents, are the buffer at some contents. -/
theorem whole_join (c : Dev nD) {sp : Space} {S : Shape} {e : EltTy} (M : Memref sig .tc sp S e) (hM : M.view.set = Finset.univ) (R : Fin 16 → Rect S)
    (hd : ∀ w w', w ≠ w' → Disjoint (R w).set (R w').set) (hc : (Finset.univ : Finset (Fin 16)).biUnion (fun w => (R w).set) = Finset.univ)
    (f : Bf (F := F) c M) :
    bigSep Finset.univ (fun w : Fin 16 => iprop(∃ g, piece c M (R w) g)) ⊢ (iprop(∃ g, M.view.loc (c : Thread nD τ) ↦{fullShare} g) : sProp 𝕄) :=
  Ring.pointsTo_blocks_join_exists (Ix := Unit) (Name := ℕ) (U := Pipeline.UD sig nD τ) (Lvl := ℕ) (q := fullShare) (ℓ := M.view.loc (c : Thread nD τ))
    (fun w : Fin 16 => M.view.setOn (R w).set) (setOn_disjoint M R hd) (setOn_cover M hM R hc) f

/-- The hidden states, by windows. -/
theorem hM_split (c : Dev nD) (f : Bf (F := F) c hM) :
    (((c : Thread nD τ).loc main_arg0) ↦{fullShare} f : sProp 𝕄) = bigSep Finset.univ (fun w : Fin 16 => piece c hM (aR w) f) :=
  whole_split c hM (View.set_whole main_arg0) aR aR_disjoint aR_cover f
/-- The result, by windows. -/
theorem oM_split (c : Dev nD) (f : Bf (F := F) c oM) :
    (((c : Thread nD τ).loc main_v8) ↦{fullShare} f : sProp 𝕄) = bigSep Finset.univ (fun w : Fin 16 => piece c oM (aR w) f) :=
  whole_split c oM (View.set_whole main_v8) aR aR_disjoint aR_cover f
/-- The first ring, by slots. -/
theorem bM_split (c : Dev nD) (f : Bf (F := F) c bM) :
    (((c : Thread nD τ).loc cc0_scratch0) ↦{fullShare} f : sProp 𝕄) = bigSep Finset.univ (fun w : Fin 16 => piece c bM (sR w) f) :=
  whole_split c bM (View.set_whole cc0_scratch0) sR sR_disjoint sR_cover f
/-- The second ring, by slots. -/
theorem yM_split (c : Dev nD) (f : Bf (F := F) c yM) :
    (((c : Thread nD τ).loc cc0_scratch1) ↦{fullShare} f : sProp 𝕄) = bigSep Finset.univ (fun w : Fin 16 => piece c yM (sR w) f) :=
  whole_split c yM (View.set_whole cc0_scratch1) sR sR_disjoint sR_cover f
/-- The first ring's slots make the ring. -/
theorem bM_join (c : Dev nD) (f : Bf (F := F) c bM) : bigSep Finset.univ (fun w : Fin 16 => iprop(∃ g, piece c bM (sR w) g))
    ⊢ (iprop(∃ g : Bf (F := F) c bM, ((c : Thread nD τ).loc cc0_scratch0) ↦{fullShare} g) : sProp 𝕄) :=
  whole_join c bM (View.set_whole cc0_scratch0) sR sR_disjoint sR_cover f
/-- The second ring's slots make the ring. -/
theorem yM_join (c : Dev nD) (f : Bf (F := F) c yM) : bigSep Finset.univ (fun w : Fin 16 => iprop(∃ g, piece c yM (sR w) g))
    ⊢ (iprop(∃ g : Bf (F := F) c yM, ((c : Thread nD τ).loc cc0_scratch1) ↦{fullShare} g) : sProp 𝕄) :=
  whole_join c yM (View.set_whole cc0_scratch1) sR sR_disjoint sR_cover f

/-! ## The pipeline's data -/

set_option maxHeartbeats 800000 in
/-- The program is the operations before the launch, and the launch. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The array the kernel copies out of. -/
def H0 : Finset (Ref sig .tc) := {main_arg0}
/-- The array the kernel copies into. -/
def R0 : Finset (Ref sig .tc) := {main_v8}
/-- The hidden states are an array the pipeline does not stage, -/
theorem H0_sub : H0 ⊆ Pipeline.restRefs sig spec0 := by decide
/-- and so is the result. -/
theorem R0_sub : R0 ⊆ Pipeline.restRefs sig spec0 \ H0 := by decide
/-- The kernel's own semaphores are different ones, and none is the pipeline's. -/
theorem ownSemFacts0 : Pipeline.OwnSemFacts spec0 osem0 := by decide

/-- The result of the run on core `c`, of the two staged operands and the hidden states. -/
def outV (c : Dev nD) : S2x2048x1024.Idx → F .f32 :=
  outOf (winY (tri (iblk m c 0 t0_0)) (probs (iblk m c 1 t0_0)) (rows c (V m c main_arg0)))

/-- The buffers after the body: the result at `outV`, the others as before. -/
def G (c : Dev nD) (b : Ref sig .tc) : Buf (Elt F) ((c : Thread nD τ).loc b) := Function.update (V m c) main_v8 (outV m c) b
/-- The result after the body. -/
theorem G_out (c : Dev nD) : G m c main_v8 = outV m c := Function.update_self _ _ _

/-- The data of the pipeline: both staged operands keep their block, the buffers of its own pass from `V` to `G`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Pipeline.ΦDRG osem0 spec0 H0 R0 (V m) (if t.val = 0 then V m else G m) c
  q _ := fullShare
  owed _ := 0

/-- A staged array before the body. -/
theorem A_eq (c : Dev nD) (w : Fin cfg0.W) : (dats m 0 c).A w = V m c (Pipeline.arrRef spec0 w) := by
  dsimp only [dats]
/-- The first operand keeps its block, -/
theorem after_0 (c : Dev nD) (t : Fin cfg0.N) : (dats m 0 c).after 0 t = iblk m c 0 t := by dsimp only [dats]
/-- and so does the second. -/
theorem after_1 (c : Dev nD) (t : Fin cfg0.N) : (dats m 0 c).after 1 t = iblk m c 1 t := by dsimp only [dats]

/-- The first operand is staged as its block, -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
/-- and so is the second. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)

/-- What the pipeline's invariant holds, conjunct by conjunct. -/
theorem Phi_eq (c : Dev nD) (W : (c : Dev nD) → (b : Ref sig .tc) → Buf (Elt F) ((c : Thread nD τ).loc b)) :
    Pipeline.ΦDRG osem0 spec0 H0 R0 (V m) W c
      = (iprop(((∃ f : Bf (F := F) c bM, ((c : Thread nD τ).loc cc0_scratch0) ↦{fullShare} f)
          ∗ (∃ f : Bf (F := F) c yM, ((c : Thread nD τ).loc cc0_scratch1) ↦{fullShare} f))
        ∗ (∃ r, prngReg c r) ∗ Pipeline.ownSems0 osem0 c
        ∗ (((c : Thread nD τ).loc main_arg0) ↦{fullShare} V m c main_arg0)
        ∗ (((c : Thread nD τ).loc main_v8) ↦{fullShare} W c main_v8)) : sProp 𝕄) := by
  rw [Pipeline.ΦDRG_eq, scopedRest0_eq]
  unfold H0 R0
  rw [BI.bigSep_singleton, Pipeline.routed_singleton]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- What the body leaves at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at a point, from what it is given to what it leaves. -/
theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  rw [show (dats m 0 c).Φ (t0_0 : Fin cfg0.N).succ = Pipeline.ΦDRG osem0 spec0 H0 R0 (V m) (G m) c from rfl,
    show (dats m 0 c).Φ (t0_0 : Fin cfg0.N).castSucc = Pipeline.ΦDRG osem0 spec0 H0 R0 (V m) (V m) c from rfl, Phi_eq, Phi_eq, G_out, after_0, after_1]
  simp only [before_0, before_1]
  unfold Dat.owesAt Pipeline.owesWithin
  rw [show (dats m 0 c).owed (t0_0 : Fin cfg0.N).castSucc = 0 from rfl, show (dats m 0 c).owed (t0_0 : Fin cfg0.N).succ = 0 from rfl]
  unfold owns
  rw [hM_split, oM_split, oM_split]
  iintro ⟨⟨⟨⟨%fb, HB⟩, ⟨%fy, HY⟩⟩, Hg, HS, HA, HO⟩, ⟨%W, -, HW⟩, ⟨%d0, %f0, %e0, H0⟩, ⟨%d1, %f1, %e1, H1⟩⟩
  unfold outV
  rw [← e0, ← e1]
  iapply (body_run c _ _ _ _ f0 f1 (V m c main_arg0) (V m c main_v8) fb fy W _)
  isplitl [H0]; · iexact H0
  isplitl [H1]; · iexact H1
  isplitl [HA]; · iexact HA
  isplitl [HO]; · iexact HO
  isplitl [HB]; · iapply (Entails.of_eq (bM_split c fb)); iexact HB
  isplitl [HY]; · iapply (Entails.of_eq (yM_split c fy)); iexact HY
  isplitl [HS]; · iexact HS
  isplitl [HW]; · iexact HW
  iintro ⟨H0, H1, HA, HO, HB, HY, HS, ⟨%W', HW'⟩⟩
  isplitl [HA HO HB HY HS Hg]
  · isplitl [HB HY]
    · isplitl [HB]; · iapply (bM_join c fb); iexact HB
      iapply (yM_join c fy); iexact HY
    isplitl [Hg]; · iexact Hg
    isplitl [HS]; · iexact HS
    isplitl [HA]; · iexact HA
    iexact HO
  isplitl [HW']
  · iexists W'; isplitr; · ipureintro; exact fun _ _ => Or.inl trivial
    iexact HW'
  isplitl [H0]
  · iexists f0; isplitr; · ipureintro; rfl
    iexact H0
  iexists f1; isplitr; · ipureintro; rfl
  iexact H1

/-- The label the pipeline calls is the body. -/
theorem defs₀_row (t : Fin cfg0.N) : defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The run of the program: the buffers end as `G` says, every semaphore at zero. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun _ => .rfl) (hout := fun _ => .rfl)

/-- The frame: the run ends, leaves the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    have keep (b : Ref sig .tc) (hb : b ∈ Pipeline.restRefs sig spec0 \ R0) := (h.1.1 c).2 b hb
    ⟨(keep main_arg0 (by decide)).trans (V_main_arg0 m c), (keep main_arg1 (by decide)).trans (V_main_arg1 m c),
      (keep main_arg2 (by decide)).trans (V_main_arg2 m c), (keep main_arg3 (by decide)).trans (V_main_arg3 m c)⟩, h.2⟩) (run_main m ρ)

/-- The value: the run ends with its result at `outV`. -/
theorem value : θ_run defs (onTc (τ := τ) (main (F := F))) ⟨m, fun _ => 0, ρ⟩ (fun r => ∀ c : Dev nD,
      r.2.mem ((c.tc : Thread nD τ).loc main_v8) = outV m c) :=
  (θ_run defs _ _).mono (fun r h c => (h.1.2 c main_v8 (Finset.mem_singleton_self _)).trans (G_out m c)) (run_main m ρ)

end Cert.KernelIdeal.Hand

end
-- ==== Proof.KernelFrame.lean ====
/-
  The kernel's frame. The kernel and its idealization are one text, read at two float formats, and the idealization's run is stated at every format: the kernel's
  programs are shown to be the idealization's, so that its run is that run at the machine's format.
-/
module

public import proofs.«01_k».proof.Proof.KernelIdealLaunch
public import proofs.«01_k».proof.Proof.Gen.Kernel

@[expose] public section

set_option maxRecDepth 100000

noncomputable section

namespace Cert.Kernel.Hand

open Idealize.ShloMosaic Idealize.SL.Sem

attribute [local instance] Cert.Kernel.Gen.facts Cert.KernelIdeal.Gen.facts

variable {F : FTy → Type} [FloatOps F]

/-- The launch's body is the idealization's. -/
theorem body_eq : cc0__ema_pipelined (F := F) = Cert.KernelIdeal.cc0__ema_pipelined := rfl

/-- So is the table of bodies. -/
theorem bodies_eq : defs₀ (F := F) = Cert.KernelIdeal.defs₀ := by
  unfold defs₀ Cert.KernelIdeal.defs₀
  refine congrArg Defs.onTc (funext fun l => ?_)
  match l with
  | 0 => rw [body_eq]; rfl

/-- So is the table with the launch's own programs. -/
theorem defs_eq : defs (F := F) = Cert.KernelIdeal.defs :=
  congrArg (Pipeline.defs Cert.KernelIdeal.pcfgs) bodies_eq

/-- The frame: the kernel's run ends, leaves the arguments as launched and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelIdeal.Hand.frame m ρ

end Cert.Kernel.Hand

end
-- ==== Proof.Ema.lean ====
module

public import Mathlib.Data.EReal.Operations
public import Mathlib.Analysis.SpecialFunctions.Log.Basic

/-! The exponentially decaying sum both programs compute, over the extended reals: the rows `h` are arbitrary extended
    reals, the step lengths and the gains are real. A sum over a stretch of rows, decayed to a common instant, splits into
    stretches, and decaying it further is one multiplication. -/

@[expose] public section

noncomputable section

namespace Cert.Ema

/-- A nonnegative real factor goes into a finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- A finite sum of reals, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

variable (D g : ℕ → ℝ) (h : ℕ → EReal)

/-- The time elapsed before row `n`: the step lengths of the rows before it, summed. -/
def clock (n : ℕ) : ℝ := ∑ u ∈ Finset.range n, D u

/-- The clock passes a row by its step length. -/
theorem clock_succ (n : ℕ) : clock D (n + 1) = clock D n + D n := Finset.sum_range_succ _ _

/-- The step lengths of the `m` rows from row `n` on. -/
theorem clock_add (n m : ℕ) : clock D (n + m) = clock D n + ∑ u ∈ Finset.range m, D (n + u) := Finset.sum_range_add _ _ _

/-- The clock never goes back where no step length is negative. -/
theorem clock_mono (hD : ∀ n, 0 ≤ D n) {a b : ℕ} (hab : a ≤ b) : clock D a ≤ clock D b :=
  Finset.sum_le_sum_of_subset_of_nonneg (Finset.range_mono hab) fun _ _ _ => hD _

/-- The step lengths of the rows from `n + s + 1` to `n + r`, negated: the difference of two readings of the clock. -/
theorem segment (n s r : ℕ) (h : s ≤ r) :
    ∑ i ∈ Finset.range (r + 1), (if s < i then -D (n + i) else 0) = clock D (n + (s + 1)) - clock D (n + (r + 1)) := by
  obtain ⟨k, rfl⟩ := Nat.exists_eq_add_of_le h
  rw [show s + k + 1 = s + 1 + k by omega, Finset.sum_range_add, ← add_assoc n (s + 1) k, clock_add D (n + (s + 1)) k,
    Finset.sum_eq_zero fun i hi => if_neg (by have := Finset.mem_range.1 hi; omega),
    Finset.sum_congr rfl fun i _ => if_pos (show s < s + 1 + i by omega), Finset.sum_neg_distrib]
  simp only [add_assoc]
  ring

/-- The step lengths of the `m` rows from row `n` on, negated. -/
theorem segment_all (n m : ℕ) : ∑ i ∈ Finset.range m, -D (n + i) = clock D n - clock D (n + m) := by
  rw [clock_add, Finset.sum_neg_distrib]
  ring

/-- Row `s`'s share at the instant `x`. -/
def share (x : ℝ) (s : ℕ) : EReal := ((Real.exp (clock D (s + 1) - x) * g s : ℝ) : EReal) * h s

/-- The first `n` rows' shares at the instant `x`. -/
def upTo (n : ℕ) (x : ℝ) : EReal := ∑ s ∈ Finset.range n, share D g h x s

/-- What row `t` of the result holds. -/
def ema (t : ℕ) : EReal := upTo D g h (t + 1) (clock D (t + 1))

/-- A share decays to a later instant by one factor. -/
theorem decay_share (x y : ℝ) (s : ℕ) : ((Real.exp (x - y) : ℝ) : EReal) * share D g h x s = share D g h y s := by
  unfold share
  rw [← mul_assoc, ← EReal.coe_mul, ← mul_assoc, ← Real.exp_add]
  congr 4
  ring_nf

/-- So does a sum of shares. -/
theorem decay_upTo (n : ℕ) (x y : ℝ) : ((Real.exp (x - y) : ℝ) : EReal) * upTo D g h n x = upTo D g h n y := by
  unfold upTo
  rw [coe_mul_sum _ _ (Real.exp_nonneg _)]
  exact Finset.sum_congr rfl fun s _ => decay_share D g h x y s

/-- A sum of shares splits at row `n`. -/
theorem upTo_add (n m : ℕ) (x : ℝ) : upTo D g h (n + m) x = upTo D g h n x + ∑ s ∈ Finset.range m, share D g h x (n + s) :=
  Finset.sum_range_add _ _ _

@[simp] theorem upTo_zero (x : ℝ) : upTo D g h 0 x = 0 := Finset.sum_range_zero _

/-- ROW `n + r`, FROM THE STRETCH THAT STARTS AT ROW `n`: the stretch's own shares, and what stood before it decayed. -/
theorem ema_stretch (n r : ℕ) : ema D g h (n + r) = (∑ s ∈ Finset.range (r + 1), share D g h (clock D (n + r + 1)) (n + s))
    + ((Real.exp (clock D n - clock D (n + r + 1)) : ℝ) : EReal) * upTo D g h n (clock D n) := by
  unfold ema
  rw [decay_upTo, show n + r + 1 = n + (r + 1) from rfl, upTo_add, add_comm]

/-- The stretches of `w` rows, each summed at its own end and decayed to the end of the `z`-th, are the first `w * z` rows. -/
theorem upTo_stretches (w z : ℕ) (x : ℝ) :
    ∑ c ∈ Finset.range z, ((Real.exp (clock D (w * (c + 1)) - x) : ℝ) : EReal)
        * ∑ s ∈ Finset.range w, share D g h (clock D (w * (c + 1))) (w * c + s)
      = upTo D g h (w * z) x := by
  induction z with
  | zero => simp
  | succ z ih =>
    rw [Finset.sum_range_succ, ih, Nat.mul_succ, upTo_add, coe_mul_sum _ _ (Real.exp_nonneg _)]
    congr 1
    exact Finset.sum_congr rfl fun s _ => decay_share D g h _ _ _

end Cert.Ema

end
-- ==== Proof.Rates.lean ====
/-
  The numbers that both programs take from a raw probability: the probability brought between the two bounds, the step length `log (1 / (1 - p))`, and the
  gain `p / log (1 / (1 - p))`. The bounds lie strictly between 0 and 1, so each of the three is a real number, whatever the raw value is, and the step
  length is positive. Then the sequences of a batch and a channel that the moving average (Ema.lean) is taken of.
-/
module

public import proofs.«01_k».proof.Proof.Ema
public import Idealize.ShloMosaic.Lib.Pointwise
public import Idealize.ShloMosaic.Lib.IdealHost

@[expose] public section

noncomputable section

namespace Cert.Rates

open Idealize.ShloMosaic

/-- The lower bound, as the programs spell it. -/
theorem lower_bits : Ideal.ofBits .f32 953267991#32 = ((13743895 / 137438953472 : ℝ) : EReal) := by
  simp [Ideal.ofBits, Ideal.ieee, -EReal.coe_mul]
  norm_num

/-- The upper bound, as the programs spell it. -/
theorem upper_bits : Ideal.ofBits .f32 1065351538#32 = ((16775538 / 16777216 : ℝ) : EReal) := by
  simp [Ideal.ofBits, Ideal.ieee, -EReal.coe_mul]
  norm_num

/-- The word of negative infinity. -/
theorem bot_bits : Ideal.ofBits .f32 4286578688#32 = ⊥ := by
  simp [Ideal.ofBits, Ideal.ieee]

/-- A raw probability brought between the bounds. -/
def clip (x : EReal) : EReal := min (Ideal.ofBits .f32 1065351538#32) (max (Ideal.ofBits .f32 953267991#32) x)

/-- The same as a real number. -/
def prob (x : EReal) : ℝ := (clip x).toReal

/-- A clipped probability is at least the lower bound, -/
theorem lower_le (x : EReal) : ((13743895 / 137438953472 : ℝ) : EReal) ≤ clip x := by
  unfold clip
  rw [lower_bits, upper_bits]
  exact le_min (EReal.coe_le_coe_iff.2 (by norm_num)) (le_max_left _ _)

/-- and at most the upper bound, -/
theorem le_upper (x : EReal) : clip x ≤ ((16775538 / 16777216 : ℝ) : EReal) := by
  unfold clip
  rw [upper_bits]
  exact min_le_left _ _

/-- so it is a real number, -/
theorem coe_prob (x : EReal) : ((prob x : ℝ) : EReal) = clip x :=
  EReal.coe_toReal (ne_top_of_le_ne_top (EReal.coe_ne_top _) (le_upper x)) (ne_bot_of_le_ne_bot (EReal.coe_ne_bot _) (lower_le x))

/-- above zero -/
theorem prob_pos (x : EReal) : 0 < prob x := by
  have h := lower_le x
  rw [← coe_prob, EReal.coe_le_coe_iff] at h
  linarith [show (0 : ℝ) < 13743895 / 137438953472 by norm_num]

/-- and below one. -/
theorem prob_lt_one (x : EReal) : prob x < 1 := by
  have h := le_upper x
  rw [← coe_prob, EReal.coe_le_coe_iff] at h
  linarith [show (16775538 / 16777216 : ℝ) < 1 by norm_num]

/-- The step length of a raw probability. -/
def step (x : EReal) : ℝ := Real.log (1 / (1 - prob x))

/-- Every step length is positive. -/
theorem step_pos (x : EReal) : 0 < step x := by
  have h0 := prob_pos x
  have h1 := prob_lt_one x
  exact Real.log_pos ((one_lt_div (by linarith)).2 (by linarith))

/-- The gain of a raw probability. -/
def gain (x : EReal) : ℝ := prob x * (1 / step x)

/-- What the programs compute for the step length. -/
theorem log_step (x : EReal) : Ideal.log (Ideal.div 1 (1 - clip x)) = ((step x : ℝ) : EReal) := by
  have h1 := prob_lt_one x
  have e : (1 : EReal) - clip x = ((1 - prob x : ℝ) : EReal) := by rw [EReal.coe_sub, coe_prob, EReal.coe_one]
  rw [e, Ideal.div_coe (by linarith), one_mul, Ideal.log_coe, if_neg (not_le.2 (one_div_pos.2 (by linarith)))]
  rfl

/-- Any number over the step length. -/
theorem div_step (y x : EReal) : Ideal.div y ((step x : ℝ) : EReal) = y * ((1 / step x : ℝ) : EReal) := Ideal.div_coe (step_pos x).ne' y

/-- What the programs compute for the gain. -/
theorem div_gain (x : EReal) : Ideal.div (clip x) ((step x : ℝ) : EReal) = ((gain x : ℝ) : EReal) := by
  rw [div_step, ← coe_prob, ← EReal.coe_mul]
  rfl

/-! ## The sequences of a batch and a channel -/

variable (P : (⟨2, ![2, 2048]⟩ : Shape).Idx → EReal) (H : (⟨3, ![2, 2048, 1024]⟩ : Shape).Idx → EReal) (b : Fin 2) (d : Fin 1024)

/-- The step lengths of batch `b`, row by row. -/
def steps (t : ℕ) : ℝ := if h : t < 2048 then step (P (ix2 b ⟨t, h⟩)) else 0
/-- The gains of batch `b`, row by row. -/
def gains (t : ℕ) : ℝ := if h : t < 2048 then gain (P (ix2 b ⟨t, h⟩)) else 0
/-- Channel `d` of batch `b`'s hidden states, row by row. -/
def chan (t : ℕ) : EReal := if h : t < 2048 then H (ix3 b ⟨t, h⟩ d) else 0

/-- The step length of a row of the batch. -/
theorem steps_of (t : ℕ) (h : t < 2048) : steps P b t = step (P (ix2 b ⟨t, h⟩)) := dif_pos h
/-- The gain of a row of the batch. -/
theorem gains_of (t : ℕ) (h : t < 2048) : gains P b t = gain (P (ix2 b ⟨t, h⟩)) := dif_pos h
/-- The hidden state of a row of the batch. -/
theorem chan_of (t : ℕ) (h : t < 2048) : chan H b d t = H (ix3 b ⟨t, h⟩ d) := dif_pos h

/-- No step length of the sequence is negative. -/
theorem steps_nonneg (t : ℕ) : 0 ≤ steps P b t := by
  unfold steps
  split
  · exact (step_pos _).le
  · exact le_refl _

/-- THE RESULT: row `t`, channel `d` of batch `b` is the moving average of that channel at row `t`. -/
def average (t : ℕ) : EReal := Ema.ema (steps P b) (gains P b) (chan H b d) t

end Cert.Rates
-- ==== Proof.HostOps.lean ====
/-
  Three operations of array code, each read at an index, for arrays of any shape: the running sum along one axis as it prints (a window of the whole
  axis, padded low by one less), the sort of a row that is in order already, and the selection along an axis by a word that is in bounds.
-/
module

public import Idealize.ShloMosaic.Lib.Pointwise
public import Idealize.ShloMosaic.Lib.SortFacts
public import Idealize.ShloMosaic.PureOps

@[expose] public section

set_option maxRecDepth 16384

noncomputable section

namespace Cert.HostOps

open Idealize.ShloMosaic

/-! ## Running sums -/

/-- A fold of additions over all positions, in an addition that commutes, is the start plus the sum. -/
theorem foldl_add {M : Type} [AddCommMonoid M] {n : ℕ} (f : Fin n → M) (v : M) :
    (List.finRange n).foldl (fun r k => r + f k) v = v + ∑ k, f k := by
  rw [← List.sum_ofFn, List.ofFn_eq_map]
  generalize List.finRange n = l
  induction l generalizing v with
  | nil => simp
  | cons a l ih => rw [List.foldl_cons, ih, List.map_cons, List.sum_cons, add_assoc]

/-- The window sum of jnp's `cumsum` along the axis `ax` of length `N`, padded with zeros: the entry at `j` is the sum of the entries on `j`'s line at and before `j`. -/
theorem windowSum {M : Type} [AddCommMonoid M] {s u : Shape} (ax : Fin s.rank) (window strides lo hi : Fin s.rank → ℕ) (x : s.Idx → M) (init : u.Idx → M)
    (h : s.ReduceWindows window strides lo hi s) (hu : 0 < u.numel) (hinit : init (Shape.Idx.first hu) = 0)
    (hax : window ax = s.size ax ∧ strides ax = 1 ∧ lo ax + 1 = s.size ax)
    (hoff : ∀ a, a ≠ ax → window a = 1 ∧ strides a = 1 ∧ lo a = 0) (j : s.Idx) :
    Host.reduceWindow (· + ·) window strides lo hi x init h hu j = ∑ i : Fin (s.size ax), if i ≤ j ax then x (Function.update j ax i) else 0 := by
  unfold Host.reduceWindow
  dsimp only
  rw [foldl_add, hinit, zero_add]
  refine Eq.trans (Finset.sum_congr rfl fun k _ => ?_) ((Equiv.sum_comp (⟨s.rank, window⟩ : Shape).rowMajor.symm (fun k : (⟨s.rank, window⟩ : Shape).Idx =>
    if hin : ∀ a, lo a ≤ (j a).val * strides a + (k a).val ∧ (j a).val * strides a + (k a).val - lo a < s.size a then
      x (fun a => ⟨(j a).val * strides a + (k a).val - lo a, (hin a).2⟩) else 0)).trans ?_)
  · by_cases hin : ∀ a, lo a ≤ (j a).val * strides a + ((⟨s.rank, window⟩ : Shape).rowMajor.symm k a).val
      ∧ (j a).val * strides a + ((⟨s.rank, window⟩ : Shape).rowMajor.symm k a).val - lo a < s.size a
    · refine (dif_pos hin).trans ?_
      rw [dif_pos hin]
      rfl
    · refine (dif_neg hin).trans ?_
      rw [dif_neg hin]
  have hj := (j ax).isLt
  obtain ⟨hw, hs, hl⟩ := hax
  -- on every other axis the window's coordinate is zero
  have hk0 : ∀ (k : (⟨s.rank, window⟩ : Shape).Idx) a, a ≠ ax → (k a).val = 0 := fun k a ha => by
    have h1 : (k a).val < window a := (k a).isLt
    have h2 := (hoff a ha).1
    omega
  have hkax : ∀ (k : (⟨s.rank, window⟩ : Shape).Idx), (k ax).val < s.size ax := fun k => by
    have h1 : (k ax).val < window ax := (k ax).isLt
    omega
  symm
  -- the entry `i` on the line meets the window at `i + lo - j`
  let K : Fin (s.size ax) → (⟨s.rank, window⟩ : Shape).Idx := fun i a =>
    if e : a = ax then ⟨if i.val ≤ (j ax).val then i.val + lo ax - (j ax).val else i.val - (j ax).val - 1, by subst e; show _ < window a; split <;> omega⟩
    else ⟨0, by show 0 < window a; have := (hoff a e).1; omega⟩
  have hK : ∀ i, (K i ax).val = if i.val ≤ (j ax).val then i.val + lo ax - (j ax).val else i.val - (j ax).val - 1 := fun i => by
    simp only [K, dite_true]
  refine Finset.sum_bij (fun i _ => K i) (fun i _ => Finset.mem_univ _) (fun i _ i' _ e => ?_) (fun k _ => ?_) (fun i _ => ?_)
  · have e1 := congrArg (fun k : (⟨s.rank, window⟩ : Shape).Idx => (k ax).val) e
    simp only [hK] at e1
    have h1 := i.isLt; have h2 := i'.isLt
    apply Fin.ext
    split at e1 <;> split at e1 <;> omega
  · have hk := hkax k
    refine ⟨⟨if lo ax ≤ (j ax).val + (k ax).val then (j ax).val + (k ax).val - lo ax else (j ax).val + (k ax).val + 1, by split <;> omega⟩, Finset.mem_univ _, ?_⟩
    funext a
    apply Fin.ext
    by_cases ha : a = ax
    · subst ha
      rw [hK]
      dsimp only
      split <;> split <;> omega
    · rw [hk0 _ a ha, hk0 _ a ha]
  · have hi := i.isLt
    by_cases hle : i ≤ j ax
    · have hle' : i.val ≤ (j ax).val := hle
      have hcoord : ∀ a, lo a ≤ (j a).val * strides a + (K i a).val ∧ (j a).val * strides a + (K i a).val - lo a = (Function.update j ax i a).val := fun a => by
        by_cases ha : a = ax
        · subst ha
          rw [hK, if_pos hle', hs, Function.update_self]
          omega
        · rw [hk0 _ a ha, (hoff a ha).2.1, (hoff a ha).2.2, Function.update_of_ne ha]
          omega
      rw [if_pos hle, dif_pos fun a => ⟨(hcoord a).1, (hcoord a).2.symm ▸ (Function.update j ax i a).isLt⟩]
      exact congrArg x (funext fun a => Fin.ext (hcoord a).2.symm)
    · have hle' : ¬ i.val ≤ (j ax).val := hle
      rw [if_neg hle, dif_neg]
      intro hin
      have := hin ax
      rw [hK, if_neg hle', hs] at this
      omega

/-- A sum over the positions at and before `j` is the sum over the numbers at most `j`. -/
theorem prefix_sum {M : Type} [AddCommMonoid M] {n : ℕ} (j : Fin n) (f : Fin n → M) (f' : ℕ → M) (hf : ∀ i : Fin n, f i = f' i) :
    (∑ i : Fin n, if i ≤ j then f i else 0) = ∑ i ∈ Finset.range (j.val + 1), f' i := by
  have hj := j.isLt
  rw [Finset.sum_congr rfl fun i _ => show (if i ≤ j then f i else 0) = (fun i : ℕ => if i ≤ j.val then f' i else 0) i.val by rw [hf]; rfl,
    Fin.sum_univ_eq_sum_range (fun i : ℕ => if i ≤ j.val then f' i else 0) n, ← Finset.sum_filter]
  refine Finset.sum_congr (Finset.ext fun i => ?_) fun _ _ => rfl
  rw [Finset.mem_filter, Finset.mem_range, Finset.mem_range]
  omega

/-- A sum over the positions below `z` is the sum over the numbers below `z`. -/
theorem below_sum {M : Type} [AddCommMonoid M] {n : ℕ} (z : ℕ) (hz : z ≤ n) (f : Fin n → M) (f' : ℕ → M) (hf : ∀ i : Fin n, i.val < z → f i = f' i) :
    (∑ i : Fin n, if i.val < z then f i else 0) = ∑ i ∈ Finset.range z, f' i := by
  rw [Finset.sum_congr rfl fun i _ => show (if i.val < z then f i else 0) = (fun i : ℕ => if i < z then f' i else 0) i.val by
      dsimp only; split
      · next h => exact hf i h
      · rfl,
    Fin.sum_univ_eq_sum_range (fun i : ℕ => if i < z then f' i else 0) n, ← Finset.sum_filter]
  refine Finset.sum_congr (Finset.ext fun i => ?_) fun _ _ => rfl
  rw [Finset.mem_filter, Finset.mem_range, Finset.mem_range]
  omega

/-- The running sum of a float array, in exact arithmetic. -/
theorem windowAdd {s u : Shape} {φ : FTy} (ax : Fin s.rank) (window strides lo hi : Fin s.rank → ℕ) (x : FVec Ideal s φ) (init : u.Idx → Ideal φ)
    (h : s.ReduceWindows window strides lo hi s) (hu : 0 < u.numel) (hinit : init (Shape.Idx.first hu) = (0 : EReal))
    (hax : window ax = s.size ax ∧ strides ax = 1 ∧ lo ax + 1 = s.size ax)
    (hoff : ∀ a, a ≠ ax → window a = 1 ∧ strides a = 1 ∧ lo a = 0) (j : s.Idx) :
    Host.reduceWindowAdd window strides lo hi x init h hu j = ∑ i : Fin (s.size ax), if i ≤ j ax then (x (Function.update j ax i) : EReal) else 0 := by
  unfold Host.reduceWindowAdd
  rw [Ideal.hostReduceWindowAdd_def]
  unfold Ideal.hostReduceWindowAdd
  exact windowSum (M := EReal) ax window strides lo hi x (fun _ => init (Shape.Idx.first hu)) h _ hinit hax hoff j

/-! ## A sort of what is in order -/

/-- What nothing in the list comes before is inserted at its head. -/
theorem insert_first {ι : Type} (before : ι → ι → Bool) (a : ι) (l : List ι) (h : ∀ b ∈ l, before b a = false) : insertBefore before a l = a :: l := by
  cases l with
  | nil => rfl
  | cons b l => unfold insertBefore; rw [h b (List.mem_cons_self ..)]; rfl

/-- A list in order is its own sort. -/
theorem sort_ordered {ι : Type} (before : ι → ι → Bool) (l : List ι) (h : l.Pairwise fun a b => before b a = false) : stableSort before l = l := by
  induction l with
  | nil => rfl
  | cons a l ih =>
    obtain ⟨h1, h2⟩ := List.pairwise_cons.1 h
    unfold stableSort
    rw [ih h2, insert_first before a l h1]

/-- Where no later position comes before an earlier one, the stable sort leaves each position in place. -/
theorem sortedFrom_ordered {n : ℕ} (before : Fin n → Fin n → Bool) (h : ∀ a b, a < b → before b a = false) (k : Fin n) : sortedFrom before k = k := by
  have e : sortPositions n before = List.finRange n :=
    sort_ordered before _ ((List.pairwise_lt_finRange n).imp fun {a b} hab => h a b hab)
  unfold sortedFrom
  rw [List.get_of_eq e]
  simp

/-- A sort of two operands along an axis on which no later entry comes before an earlier one gives the second operand back. -/
theorem sort2_ordered {s : Shape} {d : ℕ} (hd : d < s.rank) {α β : Type} (cmp : α × β → α × β → BitVec 1) (x : s.Idx → α) (y : s.Idx → β) (j : s.Idx)
    (h : ∀ k k' : Fin (s.size ⟨d, hd⟩), k < k' → cmp (x (j.along ⟨d, hd⟩ k'), y (j.along ⟨d, hd⟩ k')) (x (j.along ⟨d, hd⟩ k), y (j.along ⟨d, hd⟩ k)) = 0#1) :
    (Host.sort2 s d cmp x y).2 j = y j := by
  unfold Host.sort2
  rw [dif_pos hd]
  dsimp only
  rw [sortedFrom_ordered _ fun a b hab => by rw [h a b hab]; rfl]
  unfold Shape.Idx.along
  rw [Function.update_eq_self]

end Cert.HostOps
-- ==== Proof.KernelValue.lean ====
/-
  The idealized kernel's result read at an index: row `t`, channel `d` of batch `b` is the moving average of that channel at row `t`. One window is read first,
  from any row it starts at; the windows of a batch follow by induction.
-/
module

public import proofs.«01_k».proof.Proof.KernelIdealLaunch
public import proofs.«01_k».proof.Proof.Rates
public import proofs.«01_k».proof.Proof.HostOps
public import Idealize.ShloMosaic.Lib.Pointwise
public import Idealize.ShloMosaic.Lib.StableHlo.ReadAt
public import Idealize.ShloMosaic.Lib.Tactic.WordOmega

@[expose] public section

set_option maxRecDepth 16384

noncomputable section

namespace Cert.KernelIdeal.Hand

open Cert.KernelIdeal Cert.KernelIdeal.Gen
open Idealize.ShloMosaic Idealize.ShloMosaic.TcCoe

/-! ## The pieces of a window at an index -/

/-- A window's probabilities are the raw ones, clipped. -/
theorem stepP_at (ps : FVec Ideal S1x256 .f32) (s : Fin 256) : stepP ps (ix2 0 s) = Rates.clip (ps (ix2 0 s)) := by
  pointwise [stepP]
  rfl

/-- A window's step lengths. -/
theorem stepDt_at (ps : FVec Ideal S1x256 .f32) (s : Fin 256) : stepDt (stepP ps) (ix2 0 s) = ((Rates.step (ps (ix2 0 s)) : ℝ) : EReal) := by
  pointwise [stepDt]
  rw [stepP_at]
  exact Rates.log_step _

/-- A window's gains. -/
theorem gain_at (ps : FVec Ideal S1x256 .f32) (s : Fin 256) :
    Ideal.div (stepP ps (ix2 0 s)) (stepDt (stepP ps) (ix2 0 s)) = ((Rates.gain (ps (ix2 0 s)) : ℝ) : EReal) := by
  rw [stepP_at, stepDt_at]
  exact Rates.div_gain _

/-- The lower triangle of ones. -/
def IsTri (v1 : FVec Ideal S256x256 .f32) : Prop := ∀ r s : Fin 256, v1 (ix2 r s) = if s ≤ r then (1 : EReal) else 0

variable (P : S2x2048.Idx → EReal) (H : S2x2048x1024.Idx → EReal) (b : Fin 2) (d : Fin 1024)

/-- The product with the triangle is the running sum of a window's negated step lengths: a difference of two readings of the clock. -/
theorem stepRow_at (v1 : FVec Ideal S256x256 .f32) (hv : IsTri v1) (ps : FVec Ideal S1x256 .f32) (n : ℕ) (hn : n + 256 ≤ 2048)
    (hp : ∀ s : Fin 256, ps (ix2 0 s) = P (ix2 b ⟨n + s, by omega⟩)) (r : Fin 256) :
    stepRow v1 (stepDt (stepP ps)) (ix2 r 0) = ((Ema.clock (Rates.steps P b) n - Ema.clock (Rates.steps P b) (n + (r.val + 1)) : ℝ) : EReal) := by
  pointwise [stepRow]
  rw [← Ema.segment_all, Ema.coe_sum]
  refine Eq.trans (Finset.sum_congr rfl fun s _ => ?_) (HostOps.prefix_sum r (fun s => ((-Rates.steps P b (n + s.val) : ℝ) : EReal))
    (fun s => ((-Rates.steps P b (n + s) : ℝ) : EReal)) fun _ => rfl)
  rw [hv, stepDt_at, hp, ← Rates.steps_of P b _ (by omega)]
  split
  · rw [one_mul, zero_sub, EReal.coe_neg]
  · rw [zero_mul]

/-- ONE WINDOW: where it starts at row `n` and takes what stood before row `n`, its row `r` is row `n + r` of the moving average. -/
theorem stepY_at (v1 : FVec Ideal S256x256 .f32) (hv : IsTri v1) (ps : FVec Ideal S1x256 .f32) (carry : FVec Ideal S1x1024 .f32) (x : FVec Ideal S256x1024 .f32)
    (n : ℕ) (hn : n + 256 ≤ 2048) (hp : ∀ s : Fin 256, ps (ix2 0 s) = P (ix2 b ⟨n + s, by omega⟩)) (hx : ∀ s : Fin 256, x (ix2 s d) = H (ix3 b ⟨n + s, by omega⟩ d))
    (hc : carry (ix2 0 d) = Ema.upTo (Rates.steps P b) (Rates.gains P b) (Rates.chan H b d) n (Ema.clock (Rates.steps P b) n)) (r : Fin 256) :
    stepY v1 ps carry x (ix2 r d) = Rates.average P H b d (n + r) := by
  unfold Rates.average
  rw [Ema.ema_stretch]
  pointwise [stepY]
  rw [hc, stepRow_at P b v1 hv ps n hn hp, Ideal.exp_coe]
  refine congrArg₂ (· + ·) ?_ rfl
  refine Eq.trans (Finset.sum_congr rfl fun s _ => ?_) (HostOps.prefix_sum r
    (fun s => Ema.share (Rates.steps P b) (Rates.gains P b) (Rates.chan H b d) (Ema.clock (Rates.steps P b) (n + r.val + 1)) (n + s.val)) _ fun _ => rfl)
  pointwise [stepDecay]
  rw [stepRow_at P b v1 hv ps n hn hp, stepRow_at P b v1 hv ps n hn hp, gain_at, hv, hp, hx, ← Rates.gains_of P b _ (by omega), ← Rates.chan_of H b d _ (by omega)]
  split
  · next hle =>
    have hle' : s.val ≤ r.val := hle
    have hm : Ema.clock (Rates.steps P b) (n + (s.val + 1)) ≤ Ema.clock (Rates.steps P b) (n + (r.val + 1)) :=
      Ema.clock_mono _ (Rates.steps_nonneg P b) (by omega)
    rw [← EReal.coe_sub, min_eq_left (by rw [← EReal.coe_zero, EReal.coe_le_coe_iff]; linarith), Ideal.exp_coe, one_mul, ← EReal.coe_mul]
    unfold Ema.share
    congr 4
    simp only [add_assoc]
    ring
  · simp only [zero_mul]

/-! ## The windows of a batch -/

/-- Window `j`'s probabilities are those of its rows. -/
theorem pSlice_at (Q : FVec Ideal S1x2048 .f32) (j : ℕ) (hj : j < 8) (s : Fin 256) : pSlice Q j hj (ix2 0 s) = Q (ix2 0 ⟨256 * j + s, by omega⟩) := by
  pointwise [pSlice]

/-- THE WINDOWS OF A BATCH: row `r` of window `j` is row `256 j + r` of the moving average, the carry being the last row of the window before. -/
theorem batchY_at (v1 : FVec Ideal S256x256 .f32) (hv : IsTri v1) (Q : FVec Ideal S1x2048 .f32) (X : (j : ℕ) → j < 8 → FVec Ideal S256x1024 .f32)
    (hQ : ∀ t, Q (ix2 0 t) = P (ix2 b t)) (hX : ∀ j hj (s : Fin 256), X j hj (ix2 s d) = H (ix3 b ⟨256 * j + s, by omega⟩ d)) (j : ℕ) (hj : j < 8) (r : Fin 256) :
    batchY v1 Q X j hj (ix2 r d) = Rates.average P H b d (256 * j + r) := by
  induction j generalizing r with
  | zero =>
    unfold batchY
    refine stepY_at P H b d v1 hv _ _ _ (256 * 0) (by omega) (fun s => by rw [pSlice_at, hQ]) (hX 0 hj) ?_ r
    pointwise
    exact (Ema.upTo_zero ..).symm
  | succ j ih =>
    unfold batchY
    refine stepY_at P H b d v1 hv _ _ _ (256 * (j + 1)) (by omega) (fun s => by rw [pSlice_at, hQ]) (hX (j + 1) hj) ?_ r
    pointwise
    exact ih (by omega) 255

/-! ## The arrays the program stages -/

variable (m : (ℓ : Loc nD τ sig) → Buf (Elt Ideal) ℓ) (c : Dev nD)

/-- The first staged operand has one block, -/
theorem index0 : ∀ (t : Fin cfg0.N) (a : Fin 2), win0_0.index t a = 0 := by decide +kernel
/-- and so has the second. -/
theorem index1 : ∀ (t : Fin cfg0.N) (a : Fin 3), win0_1.index t a = 0 := by decide +kernel

/-- The first operand's block is its whole array. -/
theorem iblk0_at (r s : Fin 256) : iblk m c 0 t0_0 (ix2 r s) = V m c main_v7 (ix2 r s) := by
  show V m c main_v7 (((cfg0.win 0).blk t0_0).view.emb (ix2 r s)) = _
  refine congrArg (V m c main_v7) (funext fun a => Fin.ext ?_)
  match a with
  | ⟨0, _⟩ => show win0_0.index t0_0 (0 : Fin 2) * 256 + 1 * r.val = r.val; rw [index0]; omega
  | ⟨1, _⟩ => show win0_0.index t0_0 (1 : Fin 2) * 256 + 1 * s.val = s.val; rw [index0]; omega

/-- The second operand's block is its whole array. -/
theorem iblk1_at (x : Fin 2) (t : Fin 2048) : iblk m c 1 t0_0 (ix3 x 0 t) = V m c main_v0 (ix3 x 0 t) := by
  show V m c main_v0 (((cfg0.win 1).blk t0_0).view.emb (ix3 x 0 t)) = _
  refine congrArg (V m c main_v0) (funext fun a => Fin.ext ?_)
  match a with
  | ⟨0, _⟩ => show win0_1.index t0_0 (0 : Fin 3) * 2 + 1 * x.val = x.val; rw [index1]; omega
  | ⟨1, _⟩ => show win0_1.index t0_0 (1 : Fin 3) * 1 + 1 * 0 = 0; rw [index1]
  | ⟨2, _⟩ => show win0_1.index t0_0 (2 : Fin 3) * 2048 + 1 * t.val = t.val; rw [index1]; omega

/-- The first staged array is the triangle, -/
theorem triangle_at (r s : Fin 256) : (V m c main_v7 : S256x256.Idx → EReal) (ix2 r s) = if s ≤ r then (1 : EReal) else 0 := by
  unfold V
  after_reads_at
  have hr := r.isLt
  have hs := s.isLt
  split
  · next h =>
    have h : s.val ≤ r.val := h
    rw [show IntOp.cmpi CmpIPredicate.sle (BitVec.ofNat 32 s.val) (BitVec.ofNat 32 r.val) = 1#1 by word_omega]
    show (((1#1 : BitVec 1).toNat : ℝ) : EReal) = 1
    norm_num
  · next h =>
    have h : ¬ s.val ≤ r.val := h
    rw [show IntOp.cmpi CmpIPredicate.sle (BitVec.ofNat 32 s.val) (BitVec.ofNat 32 r.val) = 0#1 by word_omega]
    show (((0#1 : BitVec 1).toNat : ℝ) : EReal) = 0
    norm_num

/-- the second the raw probabilities. -/
theorem raw_at (x : Fin 2) (t : Fin 2048) : (V m c main_v0 : S2x1x2048.Idx → EReal) (ix3 x 0 t) = (m ((c : Thread nD τ).loc main_arg2) : S2x2048.Idx → EReal) (ix2 x t) := by
  unfold V
  after_reads_at

/-- The first operand as the body loads it is the triangle. -/
theorem isTri : IsTri (tri (iblk m c 0 t0_0)) := fun r s => by
  rw [← triangle_at m c, ← iblk0_at]
  pointwise [tri]

/-- The second operand as the body loads it, batch by batch, is the raw probabilities. -/
theorem probs_at (x : ℕ) (hx : x < 2) (t : Fin 2048) :
    (probs (F := Ideal) (iblk m c 1 t0_0) x hx (ix2 0 t) : EReal) = (m ((c : Thread nD τ).loc main_arg2) : S2x2048.Idx → EReal) (ix2 ⟨x, hx⟩ t) := by
  rw [← raw_at m c, ← iblk1_at]
  pointwise [probs]

/-- The hidden states reach the launch as given. -/
theorem hidden : V m c main_arg0 = m ((c : Thread nD τ).loc main_arg0) := by
  unfold V
  after_reads_simp

/-- Window `w`'s rows of the hidden states. -/
theorem rows_at (w : Fin 16) (s : Fin 256) (e : Fin 1024) : (rows (F := Ideal) c (V m c main_arg0) w (ix2 s e) : EReal)
    = (m ((c : Thread nD τ).loc main_arg0) : S2x2048x1024.Idx → EReal) (ix3 ⟨w.val / 8, by omega⟩ ⟨256 * (w.val % 8) + s, by omega⟩ e) := by
  rw [← hidden m c]
  exact congrArg (V m c main_arg0) (out_emb w (ix2 s e))

/-- THE KERNEL'S RESULT AT AN INDEX. -/
theorem outV_at (x : Fin 2) (t : Fin 2048) (e : Fin 1024) :
    outV m c (ix3 x t e) = Rates.average (m ((c : Thread nD τ).loc main_arg2)) (m ((c : Thread nD τ).loc main_arg0)) x e t := by
  have hx := x.isLt
  have ht := t.isLt
  have e1 : (8 * x.val + t.val / 256) / 8 = x.val := by omega
  have e2 : (8 * x.val + t.val / 256) % 8 = t.val / 256 := by omega
  show batchY (tri (iblk m c 0 t0_0)) (probs (iblk m c 1 t0_0) ((8 * x.val + t.val / 256) / 8) _)
    (fun j hj => rows c (V m c main_arg0) ⟨8 * ((8 * x.val + t.val / 256) / 8) + j, _⟩) ((8 * x.val + t.val / 256) % 8) _
    (ix2 (⟨t.val % 256, _⟩ : Fin 256) e) = _
  refine (batchY_at (m ((c : Thread nD τ).loc main_arg2)) (m ((c : Thread nD τ).loc main_arg0)) x e _ (isTri m c) _ _ (fun t => ?_) (fun j hj s => ?_) _ _ _).trans ?_
  · refine (probs_at m c _ _ t).trans ?_
    exact congrArg (fun y => (m ((c : Thread nD τ).loc main_arg2) : S2x2048.Idx → EReal) (ix2 y t)) (Fin.ext e1)
  · refine (rows_at m c _ s e).trans ?_
    refine congrArg₂ (fun y z => (m ((c : Thread nD τ).loc main_arg0) : S2x2048x1024.Idx → EReal) (ix3 y z e)) (Fin.ext ?_) (Fin.ext ?_)
    · show (8 * ((8 * x.val + t.val / 256) / 8) + j) / 8 = x.val
      omega
    · show 256 * ((8 * ((8 * x.val + t.val / 256) / 8) + j) % 8) + s.val = 256 * j + s.val
      omega
  · refine congrArg (Rates.average _ _ x e) ?_
    show 256 * ((8 * x.val + t.val / 256) % 8) + t.val % 256 = t.val
    omega

end Cert.KernelIdeal.Hand
-- ==== Proof.RefIndex.lean ====
/-
  The reference's index arithmetic where every position is a boundary: the sort of the tokens leaves them in order, the selection of the probabilities takes each
  from its own place, and so does the selection of the result's rows.
-/
module

public import proofs.«01_k».proof.Proof.Gen.ReferenceIdeal.Run
public import proofs.«01_k».proof.Proof.HostOps
public import proofs.«01_k».proof.Proof.Rates
public import Idealize.ShloMosaic.Lib.Pointwise
public import Idealize.ShloMosaic.Lib.StableHlo.ReadAt
public import Idealize.ShloMosaic.Lib.Tactic.WordOmega
public import Mathlib.Data.BitVec

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

/-! ## Selection along an axis -/

/-- The selection of a matrix along its rows: where the word at `(b, t)` is `k`, the entry is the matrix's at `(b, k)`. -/
theorem gather2 {α : Type} (x : S2x2048.Idx → α) (idx : IVec S2x2048x1 32) (b : Fin 2) (t : Fin 2048) (k : Fin 2048)
    (h : idx (ix3 b t 0) = BitVec.ofNat 32 k) :
    Host.gather gather_S2x2048_S2x2048x1_S2x2048_n_1_0_0_1_2_11 x idx (ix2 b t) = x (ix2 b k) := by
  unfold Host.gather
  refine congrArg x (funext fun a => Fin.ext ?_)
  match a with
  | ⟨0, _⟩ =>
    show 0 + b.val + 0 = b.val
    omega
  | ⟨1, _⟩ =>
    show min (idx (GatherDims.siIdx gather_S2x2048_S2x2048x1_S2x2048_n_1_0_0_1_2_11 (ix2 b t) ⟨0, by decide⟩)).toInt.toNat 2047 + 0 + 0 = k.val
    have e : GatherDims.siIdx gather_S2x2048_S2x2048x1_S2x2048_n_1_0_0_1_2_11 (ix2 b t) ⟨0, by decide⟩ = ix3 b t 0 := by
      funext a; apply Fin.ext
      match a with
      | ⟨0, _⟩ => rfl
      | ⟨1, _⟩ => rfl
      | ⟨2, _⟩ => rfl
    rw [e, h]
    have := k.isLt
    word_omega

/-- The selection of an array along its middle axis: where the word at `(b, t, d)` is `k`, the entry is the array's at `(b, k, d)`. -/
theorem gather3 {α : Type} (x : S2x2048x1024.Idx → α) (idx : IVec S2x2048x1024x1 32) (b : Fin 2) (t : Fin 2048) (d : Fin 1024) (k : Fin 2048)
    (h : idx (ix4 b t d 0) = BitVec.ofNat 32 k) :
    Host.gather gather_S2x2048x1024_S2x2048x1024x1_S2x2048x1024_n_1_02_02_1_3_111 x idx (ix3 b t d) = x (ix3 b k d) := by
  unfold Host.gather
  refine congrArg x (funext fun a => Fin.ext ?_)
  match a with
  | ⟨0, _⟩ =>
    show 0 + b.val + 0 = b.val
    omega
  | ⟨1, _⟩ =>
    show min (idx (GatherDims.siIdx gather_S2x2048x1024_S2x2048x1024x1_S2x2048x1024_n_1_02_02_1_3_111 (ix3 b t d) ⟨0, by decide⟩)).toInt.toNat 2047 + 0 + 0 = k.val
    have e : GatherDims.siIdx gather_S2x2048x1024_S2x2048x1024x1_S2x2048x1024_n_1_02_02_1_3_111 (ix3 b t d) ⟨0, by decide⟩ = ix4 b t d 0 := by
      funext a; apply Fin.ext
      match a with
      | ⟨0, _⟩ => rfl
      | ⟨1, _⟩ => rfl
      | ⟨2, _⟩ => rfl
      | ⟨3, _⟩ => rfl
    rw [e, h]
    have := k.isLt
    word_omega
  | ⟨2, _⟩ =>
    show 0 + d.val + 0 = d.val
    omega

/-! ## The words under a mask of ones -/

variable (V0 : Valuation τ sig (Elt Ideal))

/-- Every position is a boundary. -/
def AllOnes : Prop := ∀ b t, (V0 (Proc.devRef .tc main_arg1) : S2x2048.Idx → BitVec 1) (ix2 b t) = 1#1

variable (hm : AllOnes V0)
include hm

/-- The key the tokens are sorted by is their position. -/
theorem token_at (b : Fin 2) (t : Fin 2048) : (res_main_v8 V0 : S2x2048.Idx → BitVec 32) (ix2 b t) = BitVec.ofNat 32 t := by
  unfold res_main_v8
  clean_types
  pointwise
  rw [hm]
  exact BitVec.add_zero _

omit hm in
/-- The positions sorted along with the keys. -/
theorem iota_at (b : Fin 2) (t : Fin 2048) : (res_main_call1_v0 V0 : S2x2048.Idx → BitVec 32) (ix2 b t) = BitVec.ofNat 32 t := rfl

/-- The sort leaves the tokens in order. -/
theorem sorted_at (b : Fin 2) (t : Fin 2048) : (res_main_v9 V0 : S2x2048.Idx → BitVec 32) (ix2 b t) = BitVec.ofNat 32 t := by
  unfold res_main_v9
  clean_types
  refine (HostOps.sort2_ordered (s := S2x2048) (d := 1) (by decide) _ _ _ (ix2 b t) ?_).trans (iota_at V0 b t)
  show ∀ k k' : Fin 2048, k < k' → _
  intro k k' hk
  have e : ∀ k : Fin 2048, Shape.Idx.along (s := S2x2048) (ix2 b t) 1 k = ix2 b k := fun k => by
    funext a
    match a with
    | ⟨0, _⟩ => rfl
    | ⟨1, _⟩ => rfl
  show comparator_i32_i32_d1 (res_main_v8 V0 (Shape.Idx.along (s := S2x2048) (ix2 b t) 1 k'), res_main_call1_v0 V0 (Shape.Idx.along (s := S2x2048) (ix2 b t) 1 k'))
    (res_main_v8 V0 (Shape.Idx.along (s := S2x2048) (ix2 b t) 1 k), res_main_call1_v0 V0 (Shape.Idx.along (s := S2x2048) (ix2 b t) 1 k)) = 0#1
  rw [e, e]
  unfold comparator_i32_i32_d1
  dsimp only
  rw [token_at V0 hm, token_at V0 hm]
  have hk : k.val < k'.val := hk
  have := k.isLt
  have := k'.isLt
  word_omega

/-- The place each probability is taken from is its own. -/
theorem source_at (b : Fin 2) (t : Fin 2048) : (res_main_call2_v5 V0 : S2x2048x1.Idx → BitVec 32) (ix3 b t 0) = BitVec.ofNat 32 t := by
  unfold res_main_call2_v5
  clean_types
  pointwise
  rw [sorted_at V0 hm]
  have := t.isLt
  word_omega

omit hm in
/-- A word of a position is within the bounds that the selection checks. -/
theorem in_bounds' (t : Fin 2048) : IntOp.andi (IntOp.cmpi CmpIPredicate.sge (BitVec.ofNat 32 t.val) 0#32)
    (IntOp.cmpi CmpIPredicate.sle (BitVec.ofNat 32 t.val) 2047#32) = 1#1 := by
  have := t.isLt
  rw [show IntOp.cmpi CmpIPredicate.sge (BitVec.ofNat 32 t.val) 0#32 = 1#1 by word_omega,
    show IntOp.cmpi CmpIPredicate.sle (BitVec.ofNat 32 t.val) 2047#32 = 1#1 by word_omega]
  rfl

omit hm in
/-- The same check, as a conjunction with one. -/
theorem in_bounds (t : Fin 2048) : IntOp.andi (IntOp.andi (IntOp.cmpi CmpIPredicate.sge (BitVec.ofNat 32 t.val) 0#32)
    (IntOp.cmpi CmpIPredicate.sle (BitVec.ofNat 32 t.val) 2047#32)) 1#1 = 1#1 := by
  rw [in_bounds' t]
  rfl

omit V0 hm in
/-- A conjunction of ones is one. -/
theorem fold_ones {ι : Type} (s : Finset ι) (f : ι → BitVec 1) (h : ∀ i ∈ s, f i = 1#1) : Finset.fold IntOp.andi (1#1) f s = 1#1 := by
  classical
  induction s using Finset.induction_on with
  | empty => rfl
  | insert a s ha ih =>
    rw [Finset.fold_insert ha, h a (Finset.mem_insert_self _ _), ih fun i hi => h i (Finset.mem_insert_of_mem hi)]
    rfl

/-- The probabilities after the selection: each from its own place, between the bounds. -/
theorem prob_at (b : Fin 2) (t : Fin 2048) :
    (res_main_v10 V0 : S2x2048.Idx → EReal) (ix2 b t) = Rates.clip ((V0 (Proc.devRef .tc main_arg2) : S2x2048.Idx → EReal) (ix2 b t)) := by
  unfold res_main_v10
  clean_types
  pointwise
  rw [gather2 _ _ b t t (source_at V0 hm b t)]
  pointwise
  simp only [Finset.univ_unique, Finset.fold_singleton, Fin.default_eq_zero, source_at V0 hm b t, in_bounds]
  rfl

/-- The count of the boundaries up to a position, less one, is the position. -/
theorem plug_at (b : Fin 2) (t : Fin 2048) (d : Fin 1024) : (res_main_v92 V0 : S2x2048x1024.Idx → BitVec 32) (ix3 b t d) = BitVec.ofNat 32 t := by
  unfold res_main_v92
  clean_types
  pointwise
  have e := HostOps.windowSum (M := BitVec 32) (s := S2x2048) (u := S_) 1 ![1, 2048] ![1, 1] ![0, 2047] ![0, 0]
    (extui 32 (V0 (Proc.devRef .tc main_arg1)) natLt_1_32) (broadcastInDim S_ ![] bcast_S_S_ (constantI S_ 32 0#32))
    reduceWindows_S2x2048_S2x2048_w1s1p0_0_w2048s1p2047_0 h_S_ rfl (by decide) (by decide) (ix2 b t)
  refine (congrArg (fun x : BitVec 32 => IntOp.subi x 1#32) (e.trans (HostOps.prefix_sum (n := 2048) (M := BitVec 32) t _ (fun _ => 1#32) fun i => ?_))).trans ?_
  · have e1 : Function.update (ix2 b t : S2x2048.Idx) 1 i = ix2 b i := by
      funext a
      match a with
      | ⟨0, _⟩ => rfl
      | ⟨1, _⟩ => rfl
    rw [e1]
    pointwise
    rw [hm]
    rfl
  · rw [Finset.sum_const, Finset.card_range]
    have e2 : (t.val + 1) • (1#32 : BitVec 32) = BitVec.ofNat 32 (t.val + 1) := by
      generalize t.val + 1 = n
      induction n with
      | zero => rfl
      | succ n ih => rw [succ_nsmul, ih, BitVec.ofNat_add]
    rw [e2, BitVec.ofNat_add]
    exact BitVec.add_sub_cancel _ _

/-- The place each of the result's rows is taken from is its own. -/
theorem back_at (b : Fin 2) (t : Fin 2048) (d : Fin 1024) : (res_main_call16_v5 V0 : S2x2048x1024x1.Idx → BitVec 32) (ix4 b t d 0) = BitVec.ofNat 32 t := by
  unfold res_main_call16_v5
  clean_types
  pointwise
  rw [plug_at V0 hm]
  have := t.isLt
  word_omega

/-- The selection of the result's rows gives each row back in its own place. -/
theorem plug_back (Y : S2x2048x1024.Idx → EReal) (b : Fin 2) (t : Fin 2048) (d : Fin 1024) :
    (select (Host.reduce IntOp.andi (andi (cmpi .sge (res_main_call16_v5 V0) (broadcastInDim S2x2048x1024x1 ![] bcast_S_S2x2048x1024x1 (constantI S_ 32 0#32))) (cmpi .sle (res_main_call16_v5 V0) (broadcastInDim S2x2048x1024x1 ![0, 1, 2, 3] bcast_S1x1x1x1_S2x2048x1024x1_0_1_2_3 (broadcastInDim S1x1x1x1 ![3] bcast_S1_S1x1x1x1_3 (constantI S1 32 2047#32))))) (constantI S_ 1 1#1) reducesTo_S2x2048x1024x1_S2x2048x1024_d3 h_S_)
      (Host.gather gather_S2x2048x1024_S2x2048x1024x1_S2x2048x1024_n_1_02_02_1_3_111 Y (res_main_call16_v5 V0)) (broadcastInDim S2x2048x1024 ![] bcast_S_S2x2048x1024 (constant (F := Ideal) S_ .f32 0x7FC00000#32)) : S2x2048x1024.Idx → EReal) (ix3 b t d)
      = Y (ix3 b t d) := by
  pointwise
  rw [gather3 _ _ b t d t (back_at V0 hm b t d)]
  rw [fold_ones _ _ fun x _ => ?_]
  · rfl
  · obtain ⟨x0, x1, x2, x3, rfl⟩ : ∃ x0 x1 x2 x3, x = ix4 x0 x1 x2 x3 := ⟨_, _, _, _, eq_ix4 x⟩
    obtain rfl : x3 = 0 := Subsingleton.elim _ _
    rw [back_at V0 hm]
    exact in_bounds' x1

end Cert.ReferenceIdeal.Hand
-- ==== Proof.RefValue.lean ====
/-
  The reference's result read at an index, where every position is a boundary: row `t`, channel `d` of batch `b` is the moving average of that channel at row `t`.
  The chunks of 128 rows are read in the reference's own order: the running sums of the step lengths, the decay within a chunk, the state a chunk adds, the
  state before a chunk, and the two summands of a row.
-/
module

public import proofs.«01_k».proof.Proof.RefIndex

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

variable (V0 : Valuation τ sig (Elt Ideal))

/-- The raw probabilities. -/
abbrev rawP : S2x2048.Idx → EReal := V0 (Proc.devRef .tc main_arg2)
/-- The hidden states. -/
abbrev hid : S2x2048x1024.Idx → EReal := V0 (Proc.devRef .tc main_arg0)

/-- The channel that entry `p` of head `h` is. -/
def chanOf (h p : Fin 32) : Fin 1024 := ⟨h.val * 32 + p.val, by omega⟩

/-- Row `l` of chunk `c` is a row. -/
theorem row_lt (c : Fin 16) (l : Fin 128) : 128 * c.val + l.val < 2048 := by omega

/-- The two ways the row's number is written are one. -/
theorem rowEq (c : Fin 16) (l : Fin 128) (q : c.val * 128 + l.val < 2048) : (⟨c.val * 128 + l.val, q⟩ : Fin 2048) = ⟨128 * c.val + l.val, row_lt c l⟩ :=
  Fin.ext (by show c.val * 128 + l.val = 128 * c.val + l.val; omega)

variable (hm : AllOnes V0) (b : Fin 2) (c : Fin 16) (l : Fin 128) (h p : Fin 32)

include hm

/-- The step length of a row. -/
theorem dt_at (t : Fin 2048) : (res_main_v15 V0 : S2x2048.Idx → EReal) (ix2 b t) = ((Rates.step (rawP V0 (ix2 b t)) : ℝ) : EReal) := by
  unfold res_main_v15
  clean_types
  pointwise
  rw [prob_at V0 hm]
  exact Rates.log_step _

/-- The hidden states over the step lengths. -/
theorem X_at : (res_main_v28 V0 : S2x16x128x32x32.Idx → EReal) (ix5 b c l h p)
    = hid V0 (ix3 b ⟨128 * c.val + l.val, row_lt c l⟩ (chanOf h p)) * ((1 / Rates.step (rawP V0 (ix2 b ⟨128 * c.val + l.val, row_lt c l⟩)) : ℝ) : EReal) := by
  unfold res_main_v28
  clean_types
  pointwise
  rw [dt_at V0 hm, Rates.div_step, rowEq]
  rfl

/-- The probability, once per head. -/
theorem B_at : (res_main_v30 V0 : S2x16x128x32x1.Idx → EReal) (ix5 b c l h 0) = Rates.clip (rawP V0 (ix2 b ⟨128 * c.val + l.val, row_lt c l⟩)) := by
  unfold res_main_v30
  clean_types
  pointwise
  rw [prob_at V0 hm, rowEq]

omit hm in
/-- The output weights are one. -/
theorem C_at : (res_main_v31 V0 : S2x16x128x32x1.Idx → EReal) (ix5 b c l h 0) = (1 : EReal) := by
  unfold res_main_v31
  clean_types
  pointwise

/-- The negated step length, by heads and chunks. -/
theorem A_at : (res_main_v32 V0 : S2x32x16x128.Idx → EReal) (ix4 b h c l) = ((-(Rates.steps (rawP V0) b) (128 * c.val + l.val) : ℝ) : EReal) := by
  unfold res_main_v32
  clean_types
  pointwise
  rw [dt_at V0 hm, rowEq, ← Rates.steps_of (rawP V0) b _ (row_lt c l), EReal.coe_neg, EReal.neg_mul, one_mul]

/-- The running sums of the negated step lengths within a chunk. -/
theorem cum_at : (res_main_v33 V0 : S2x32x16x128.Idx → EReal) (ix4 b h c l)
    = ((Ema.clock (Rates.steps (rawP V0) b) (128 * c.val) - Ema.clock (Rates.steps (rawP V0) b) (128 * c.val + (l.val + 1)) : ℝ) : EReal) := by
  unfold res_main_v33
  clean_types
  refine (HostOps.windowAdd (s := S2x32x16x128) (u := S_) 3 ![1, 1, 1, 128] ![1, 1, 1, 1] ![0, 0, 0, 127] ![0, 0, 0, 0] _ _ _ _ ?_ (by decide) (by decide) (ix4 b h c l)).trans ?_
  · pointwise
  rw [← Ema.segment_all, Ema.coe_sum]
  refine HostOps.prefix_sum (n := 128) (M := EReal) l _ (fun i => ((-(Rates.steps (rawP V0) b) (128 * c.val + i) : ℝ) : EReal)) fun i => ?_
  have e : Function.update (ix4 b h c l : S2x32x16x128.Idx) 3 i = ix4 b h c i := by
    funext a
    match a with
    | ⟨0, _⟩ => rfl
    | ⟨1, _⟩ => rfl
    | ⟨2, _⟩ => rfl
    | ⟨3, _⟩ => rfl
  rw [e]
  exact A_at V0 hm b c i h

omit hm in
/-- The zero word is zero. -/
theorem zero_word : (constant (F := Ideal) S_ .f32 0#32 ix0 : EReal) = 0 := by
  pointwise

/-- The decay between two rows of a chunk, below the diagonal; nothing above it. -/
theorem seg_at (s : Fin 128) :
    (Host.exp (select (broadcastInDim S2x32x16x128x128 ![3, 4] bcast_S128x128_S2x32x16x128x128_3_4 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) (Host.reduceWindowAdd ![1, 1, 1, 128, 1] ![1, 1, 1, 1, 1] ![0, 0, 0, 127, 0] ![0, 0, 0, 0, 0] (select (broadcastInDim S2x32x16x128x128 ![3, 4] bcast_S128x128_S2x32x16x128x128_3_4 (select (cmpi .sge (addi (iotaInDim S128x128 32 0) (broadcastInDim S128x128 ![] bcast_S_S128x128 (constantI S_ 32 4294967295#32))) (iotaInDim S128x128 32 1)) (broadcastInDim S128x128 ![] bcast_S_S128x128 (constantI S_ 1 1#1)) (broadcastInDim S128x128 ![] bcast_S_S128x128 (constantI S_ 1 0#1)))) (broadcastInDim S2x32x16x128x128 ![0, 1, 2, 3, 4] bcast_S2x32x16x128x1_S2x32x16x128x128_0_1_2_3_4 (broadcastInDim S2x32x16x128x1 ![0, 1, 2, 3] bcast_S2x32x16x128_S2x32x16x128x1_0_1_2_3 (res_main_v32 V0))) (broadcastInDim S2x32x16x128x128 ![] bcast_S_S2x32x16x128x128 (id (constant (F := Ideal) S_ .f32 0x00000000#32)))) (broadcastInDim S_ ![] bcast_S_S_ (constant (F := Ideal) S_ .f32 0x00000000#32)) reduceWindows_S2x32x16x128x128_S2x32x16x128x128_w1s1p0_0_w1s1p0_0_w1s1p0_0_w128s1p127_0_w1s1p0_0 h_S_) (broadcastInDim S2x32x16x128x128 ![] bcast_S_S2x32x16x128x128 (id (constant (F := Ideal) S_ .f32 0xFF800000#32)))) : S2x32x16x128x128.Idx → EReal) (ix5 b h c l s)
      = if s ≤ l then ((Real.exp (Ema.clock (Rates.steps (rawP V0) b) (128 * c.val + (s.val + 1)) - Ema.clock (Rates.steps (rawP V0) b) (128 * c.val + (l.val + 1))) : ℝ) : EReal) else 0 := by
  have hl := l.isLt
  have hs := s.isLt
  pointwise
  split
  · next hle =>
    have hle' : s.val ≤ l.val := hle
    rw [show IntOp.cmpi CmpIPredicate.sge (IntOp.addi (BitVec.ofNat 32 l.val) 0#32) (BitVec.ofNat 32 s.val) = 1#1 by word_omega]
    refine Eq.trans (congrArg Ideal.exp ?_) (Ideal.exp_coe _)
    show Host.reduceWindowAdd _ _ _ _ _ _ _ _ _ = _
    refine (HostOps.windowAdd (s := S2x32x16x128x128) (u := S_) 3 ![1, 1, 1, 128, 1] ![1, 1, 1, 1, 1] ![0, 0, 0, 127, 0] ![0, 0, 0, 0, 0] _ _ _ _ ?_ (by decide) (by decide) (ix5 b h c l s)).trans ?_
    · pointwise
    rw [← Ema.segment _ _ _ _ hle', Ema.coe_sum]
    refine HostOps.prefix_sum (n := 128) (M := EReal) l _ (fun i => ((if s.val < i then -(Rates.steps (rawP V0) b) (128 * c.val + i) else 0 : ℝ) : EReal)) fun i => ?_
    have e : Function.update (ix5 b h c l s : S2x32x16x128x128.Idx) 3 i = ix5 b h c i s := by
      funext a
      match a with
      | ⟨0, _⟩ => rfl
      | ⟨1, _⟩ => rfl
      | ⟨2, _⟩ => rfl
      | ⟨3, _⟩ => rfl
      | ⟨4, _⟩ => rfl
    have hi : i.val < 128 := i.isLt
    rw [e]
    pointwise
    rw [A_at V0 hm]
    split
    · next hlt =>
      rw [show IntOp.cmpi CmpIPredicate.sge (IntOp.addi (BitVec.ofNat 32 i.val) 4294967295#32) (BitVec.ofNat 32 s.val) = 1#1 by word_omega]
      rfl
    · next hlt =>
      rw [show IntOp.cmpi CmpIPredicate.sge (IntOp.addi (BitVec.ofNat 32 i.val) 4294967295#32) (BitVec.ofNat 32 s.val) = 0#1 by word_omega]
      exact zero_word
  · next hle =>
    have hle' : ¬ s.val ≤ l.val := hle
    rw [show IntOp.cmpi CmpIPredicate.sge (IntOp.addi (BitVec.ofNat 32 l.val) 0#32) (BitVec.ofNat 32 s.val) = 0#1 by word_omega]
    show Ideal.exp (Ideal.ofBits .f32 4286578688#32) = 0
    rw [Rates.bot_bits, Ideal.exp_bot]

omit hm in
/-- A row's hidden state over its step length, times its probability, times a decay, is the row's share. -/
theorem share_of (x : ℝ) : (hid V0 (ix3 b ⟨128 * c.val + l.val, row_lt c l⟩ (chanOf h p)) * ((1 / Rates.step (rawP V0 (ix2 b ⟨128 * c.val + l.val, row_lt c l⟩)) : ℝ) : EReal))
      * (Rates.clip (rawP V0 (ix2 b ⟨128 * c.val + l.val, row_lt c l⟩)) * ((Real.exp (Ema.clock (Rates.steps (rawP V0) b) (128 * c.val + (l.val + 1)) - x) : ℝ) : EReal))
    = Ema.share (Rates.steps (rawP V0) b) (Rates.gains (rawP V0) b) (Rates.chan (hid V0) b (chanOf h p)) x (128 * c.val + l.val) := by
  unfold Ema.share
  rw [Rates.gains_of _ _ _ (row_lt c l), Rates.chan_of _ _ _ _ (row_lt c l), ← Rates.coe_prob]
  unfold Rates.gain
  rw [EReal.coe_mul, EReal.coe_mul, add_assoc]
  ac_rfl

/-- What a chunk adds to the state, at the chunk's end. -/
theorem state_at : (res_main_v55 V0 : S2x16x32x32x1.Idx → EReal) (ix5 b c h p 0)
    = ∑ s ∈ Finset.range 128, Ema.share (Rates.steps (rawP V0) b) (Rates.gains (rawP V0) b) (Rates.chan (hid V0) b (chanOf h p)) (Ema.clock (Rates.steps (rawP V0) b) (128 * (c.val + 1))) (128 * c.val + s) := by
  unfold res_main_v55
  clean_types
  pointwise
  rw [← Fin.sum_univ_eq_sum_range (fun s => Ema.share (Rates.steps (rawP V0) b) (Rates.gains (rawP V0) b) (Rates.chan (hid V0) b (chanOf h p)) (Ema.clock (Rates.steps (rawP V0) b) (128 * (c.val + 1))) (128 * c.val + s)) 128]
  refine Finset.sum_congr rfl fun x _ => ?_
  rw [X_at V0 hm, B_at V0 hm, cum_at V0 hm, cum_at V0 hm, ← EReal.coe_sub, Ideal.exp_coe, ← share_of]
  refine congrArg (fun r : ℝ => _ * (_ * ((Real.exp r : ℝ) : EReal))) ?_
  show Ema.clock (Rates.steps (rawP V0) b) (128 * c.val) - Ema.clock (Rates.steps (rawP V0) b) (128 * c.val + (127 + 1)) - (Ema.clock (Rates.steps (rawP V0) b) (128 * c.val) - Ema.clock (Rates.steps (rawP V0) b) (128 * c.val + (x.val + 1))) = _
  rw [show 128 * c.val + (127 + 1) = 128 * (c.val + 1) by omega]
  ring

omit hm in
/-- The clock of the chunks: the step lengths of a whole chunk at a time, none before the first. -/
theorem chunk_clock (D : ℕ → ℝ) (r : ℕ) :
    Ema.clock (fun i => Ema.clock D (128 * i) - Ema.clock D (128 * (i - 1))) (r + 1) = Ema.clock D (128 * r) - Ema.clock D 0 := by
  induction r with
  | zero => rw [Ema.clock_succ]; simp [Ema.clock]
  | succ r ih => rw [Ema.clock_succ, ih, Nat.add_sub_cancel]; ring

/-- What the running sums over whole chunks add up: a chunk's last running sum, shifted by one chunk, below the diagonal. -/
abbrev chunkTerms : FVec Ideal S2x32x17x17 .f32 :=
  select (broadcastInDim S2x32x17x17 ![2, 3] bcast_S17x17_S2x32x17x17_2_3 (select (cmpi .sge (addi (iotaInDim S17x17 32 0) (broadcastInDim S17x17 ![] bcast_S_S17x17 (constantI S_ 32 4294967295#32))) (iotaInDim S17x17 32 1)) (broadcastInDim S17x17 ![] bcast_S_S17x17 (constantI S_ 1 1#1)) (broadcastInDim S17x17 ![] bcast_S_S17x17 (constantI S_ 1 0#1)))) (broadcastInDim S2x32x17x17 ![0, 1, 2, 3] bcast_S2x32x17x1_S2x32x17x17_0_1_2_3 (broadcastInDim S2x32x17x1 ![0, 1, 2] bcast_S2x32x17_S2x32x17x1_0_1_2 (pad S2x32x17 ![0, 0, 1] ![0, 0, 0] ![0, 0, 0] (shapeCast S2x32x16 (extractStridedSlice S2x32x16x1 ![0, 0, 0, 127] (res_main_v33 V0) slices_S2x32x16x128_S2x32x16x1_0_0_0_127) shapeCasts_S2x32x16x1_S2x32x16) (sitofp FTy.f32 (constantI S_ 32 0#32)) pads_S2x32x16_S2x32x17_000_000_100 h_S_))) (broadcastInDim S2x32x17x17 ![] bcast_S_S2x32x17x17 (id (constant S_ FTy.f32 0#32)))

/-- The step lengths of the chunks from `k` up to `z`, negated. -/
theorem chunks_at (z k : Fin 17) (hkz : k.val ≤ z.val) :
    (Host.reduceWindowAdd ![1, 1, 17, 1] ![1, 1, 1, 1] ![0, 0, 16, 0] ![0, 0, 0, 0] (chunkTerms V0) (broadcastInDim S_ ![] bcast_S_S_ (constant S_ FTy.f32 0#32))
      reduceWindows_S2x32x17x17_S2x32x17x17_w1s1p0_0_w1s1p0_0_w17s1p16_0_w1s1p0_0 h_S_ : S2x32x17x17.Idx → EReal) (ix4 b h z k)
      = ((Ema.clock (Rates.steps (rawP V0) b) (128 * k.val) - Ema.clock (Rates.steps (rawP V0) b) (128 * z.val) : ℝ) : EReal) := by
  refine (HostOps.windowAdd (s := S2x32x17x17) (u := S_) 2 ![1, 1, 17, 1] ![1, 1, 1, 1] ![0, 0, 16, 0] ![0, 0, 0, 0] _ _ _ _ ?_ (by decide) (by decide) (ix4 b h z k)).trans ?_
  · pointwise
  have hseg := Ema.segment (fun i => Ema.clock (Rates.steps (rawP V0) b) (128 * i) - Ema.clock (Rates.steps (rawP V0) b) (128 * (i - 1))) 0 k.val z.val hkz
  rw [Nat.zero_add, Nat.zero_add, chunk_clock, chunk_clock, sub_sub_sub_cancel_right] at hseg
  rw [← hseg, Ema.coe_sum]
  refine HostOps.prefix_sum (n := 17) (M := EReal) z _ (fun i => ((if k.val < i then -(Ema.clock (Rates.steps (rawP V0) b) (128 * (0 + i)) - Ema.clock (Rates.steps (rawP V0) b) (128 * (0 + i - 1))) else 0 : ℝ) : EReal)) fun i => ?_
  have e : Function.update (ix4 b h z k : S2x32x17x17.Idx) 2 i = ix4 b h i k := by
    funext a
    match a with
    | ⟨0, _⟩ => rfl
    | ⟨1, _⟩ => rfl
    | ⟨2, _⟩ => rfl
    | ⟨3, _⟩ => rfl
  have hi : i.val < 17 := i.isLt
  have hk : k.val < 17 := k.isLt
  rw [e]
  unfold chunkTerms
  split
  · next hlt =>
    have hin : 1 ≤ i.val ∧ i.val - 1 < 16 := by omega
    have hend : 128 * (i.val - 1) + (127 + 1) = 128 * (0 + i.val) := by omega
    pointwise
    rw [show IntOp.cmpi CmpIPredicate.sge (IntOp.addi (BitVec.ofNat 32 i.val) 4294967295#32) (BitVec.ofNat 32 k.val) = 1#1 by word_omega]
    refine (dif_pos hin : dite (1 ≤ i.val ∧ i.val - 1 < 16) _ _ = _).trans ?_
    refine (cum_at V0 hm b ⟨i.val - 1, hin.2⟩ 127 h).trans ?_
    show ((Ema.clock (Rates.steps (rawP V0) b) (128 * (i.val - 1)) - Ema.clock (Rates.steps (rawP V0) b) (128 * (i.val - 1) + (127 + 1)) : ℝ) : EReal) = _
    rw [hend, Nat.zero_add, neg_sub]
  · next hlt =>
    pointwise
    rw [show IntOp.cmpi CmpIPredicate.sge (IntOp.addi (BitVec.ofNat 32 i.val) 4294967295#32) (BitVec.ofNat 32 k.val) = 0#1 by word_omega]
    exact zero_word

/-- The state before chunk `z`, the one after the last chunk among them. -/
theorem carried_at (z : Fin 17) : (res_main_v73 V0 : S2x17x32x32x1.Idx → EReal) (ix5 b z h p 0)
    = Ema.upTo (Rates.steps (rawP V0) b) (Rates.gains (rawP V0) b) (Rates.chan (hid V0) b (chanOf h p)) (128 * z.val) (Ema.clock (Rates.steps (rawP V0) b) (128 * z.val)) := by
  have hz := z.isLt
  unfold res_main_v73
  clean_types
  pointwise
  rw [show (∑ x : Fin 1, (0 : EReal) * _) = 0 from Finset.sum_eq_zero fun x _ => zero_mul _, zero_add]
  rw [← Ema.upTo_stretches _ _ _ 128 z.val]
  refine Eq.trans (Finset.sum_congr rfl fun x _ => ?_) (HostOps.below_sum (n := 16) (M := EReal) z.val (by omega) (fun x : Fin 16 => ((Real.exp (Ema.clock (Rates.steps (rawP V0) b) (128 * (x.val + 1)) - Ema.clock (Rates.steps (rawP V0) b) (128 * z.val)) : ℝ) : EReal) * ∑ s ∈ Finset.range 128, Ema.share (Rates.steps (rawP V0) b) (Rates.gains (rawP V0) b) (Rates.chan (hid V0) b (chanOf h p)) (Ema.clock (Rates.steps (rawP V0) b) (128 * (x.val + 1))) (128 * x.val + s)) _ fun i _ => rfl)
  have hx : x.val < 16 := x.isLt
  split
  · next hlt =>
    rw [show IntOp.cmpi CmpIPredicate.sge (IntOp.addi (BitVec.ofNat 32 z.val) 0#32) (BitVec.ofNat 32 (1 + x.val)) = 1#1 by word_omega]
    rw [state_at V0 hm, mul_comm]
    refine congrArg (fun r : EReal => r * _) (Eq.trans (congrArg Ideal.exp ?_) (Ideal.exp_coe _))
    refine (chunks_at V0 hm b h z ⟨1 + x.val, by omega⟩ (by show 1 + x.val ≤ z.val; omega)).trans ?_
    show ((Ema.clock _ (128 * (1 + x.val)) - _ : ℝ) : EReal) = _
    rw [Nat.add_comm 1 x.val]
  · next hlt =>
    rw [show IntOp.cmpi CmpIPredicate.sge (IntOp.addi (BitVec.ofNat 32 z.val) 0#32) (BitVec.ofNat 32 (1 + x.val)) = 0#1 by word_omega]
    refine Eq.trans (congrArg (fun r : EReal => _ * r) ?_) (mul_zero _)
    show Ideal.exp (Ideal.ofBits .f32 4286578688#32) = 0
    rw [Rates.bot_bits, Ideal.exp_bot]

end Cert.ReferenceIdeal.Hand
-- ==== Proof.RefRows.lean ====
/-
  The reference's result, row by row: the two summands of a row are the moving average there, and the last gather puts every row in its own place.
-/
module

public import proofs.«01_k».proof.Proof.RefValue
public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo Idealize.SL.Sem

/-- Chunks and heads laid out as rows and channels. -/
theorem reshape_at (A : S2x16x128x32x32.Idx → EReal) (b : Fin 2) (t : Fin 2048) (d : Fin 1024) :
    shapeCast S2x2048x1024 (shapeCast S2x2048x32x32 A shapeCasts_S2x16x128x32x32_S2x2048x32x32) shapeCasts_S2x2048x32x32_S2x2048x1024 (ix3 b t d)
      = A (ix5 b ⟨t.val / 128, by omega⟩ ⟨t.val % 128, by omega⟩ ⟨d.val / 32, by omega⟩ ⟨d.val % 32, by omega⟩) := by
  pointwise

/-- The summand of the rows of the same chunk, read at a row. -/
theorem diag_read (X : S2x16x128x32x32.Idx → EReal) (C B : S2x16x128x32x1.Idx → EReal) (L : S2x32x16x128x128.Idx → EReal) (b : Fin 2) (c : Fin 16) (l : Fin 128) (h p : Fin 32) :
    ((transpose S2x16x128x32x32 [0, 1, 4, 2, 3] (Host.dotGeneral (F := Ideal) (φ₁ := .f32) (φ₂ := .f32) dot_S2x16x128x32x32_S2x32x16x128x128_S2x16x32x32x128_2_4_4_3_013_021 none X (mulf (Host.dotGeneral (F := Ideal) (φ₁ := .f32) (φ₂ := .f32) dot_S2x16x128x32x1_S2x16x128x32x1_S2x32x16x128x128_4_4_2_2_031_031 none C B) L)) transposes_S2x16x32x32x128_S2x16x128x32x32_0_1_4_2_3)) (ix5 b c l h p)
      = (∑ s : Fin 128, X (ix5 b c s h p) * ((C (ix5 b c l h 0) * B (ix5 b c s h 0)) * L (ix5 b h c l s)) : EReal) := by
  pointwise
  refine Finset.sum_congr rfl fun s _ => ?_
  rw [Fin.sum_univ_one]

/-- The summand of the chunks before, read at a row. -/
theorem off_read (S : S2x17x32x32x1.Idx → EReal) (C : S2x16x128x32x1.Idx → EReal) (A : S2x32x16x128.Idx → EReal) (b : Fin 2) (c : Fin 16) (l : Fin 128) (h p : Fin 32) :
    ((mulf (transpose S2x16x128x32x32 [0, 1, 4, 2, 3] (Host.dotGeneral (F := Ideal) (φ₁ := .f32) (φ₂ := .f32) dot_S2x16x32x32x1_S2x16x128x32x1_S2x16x32x32x128_4_4_3_2_012_013 none (extractStridedSlice S2x16x32x32x1 ![0, 0, 0, 0, 0] S slices_S2x17x32x32x1_S2x16x32x32x1_0_0_0_0_0) C) transposes_S2x16x32x32x128_S2x16x128x32x32_0_1_4_2_3) (broadcastInDim S2x16x128x32x32 ![0, 1, 2, 3, 4] bcast_S2x16x128x32x1_S2x16x128x32x32_0_1_2_3_4 (broadcastInDim S2x16x128x32x1 ![0, 1, 2, 3] bcast_S2x16x128x32_S2x16x128x32x1_0_1_2_3 (transpose S2x16x128x32 [0, 2, 3, 1] (Host.exp (F := Ideal) (φ := .f32) A) transposes_S2x32x16x128_S2x16x128x32_0_2_3_1))))) (ix5 b c l h p)
      = ((S (ix5 b ⟨c.val, by omega⟩ h p 0) * C (ix5 b c l h 0)) * Ideal.exp (A (ix4 b h c l)) : EReal) := by
  pointwise
  rw [Fin.sum_univ_one]

/-- A row of the sum of the two summands. -/
theorem rows_read (X : S2x16x128x32x32.Idx → EReal) (C B : S2x16x128x32x1.Idx → EReal) (L : S2x32x16x128x128.Idx → EReal) (S : S2x17x32x32x1.Idx → EReal)
    (A : S2x32x16x128.Idx → EReal) (b : Fin 2) (t : Fin 2048) (d : Fin 1024) :
    shapeCast S2x2048x1024 (shapeCast S2x2048x32x32 (addf (F := Ideal) (φ := .f32) (transpose S2x16x128x32x32 [0, 1, 4, 2, 3] (Host.dotGeneral (F := Ideal) (φ₁ := .f32) (φ₂ := .f32) dot_S2x16x128x32x32_S2x32x16x128x128_S2x16x32x32x128_2_4_4_3_013_021 none X (mulf (Host.dotGeneral (F := Ideal) (φ₁ := .f32) (φ₂ := .f32) dot_S2x16x128x32x1_S2x16x128x32x1_S2x32x16x128x128_4_4_2_2_031_031 none C B) L)) transposes_S2x16x32x32x128_S2x16x128x32x32_0_1_4_2_3) (mulf (transpose S2x16x128x32x32 [0, 1, 4, 2, 3] (Host.dotGeneral (F := Ideal) (φ₁ := .f32) (φ₂ := .f32) dot_S2x16x32x32x1_S2x16x128x32x1_S2x16x32x32x128_4_4_3_2_012_013 none (extractStridedSlice S2x16x32x32x1 ![0, 0, 0, 0, 0] S slices_S2x17x32x32x1_S2x16x32x32x1_0_0_0_0_0) C) transposes_S2x16x32x32x128_S2x16x128x32x32_0_1_4_2_3) (broadcastInDim S2x16x128x32x32 ![0, 1, 2, 3, 4] bcast_S2x16x128x32x1_S2x16x128x32x32_0_1_2_3_4 (broadcastInDim S2x16x128x32x1 ![0, 1, 2, 3] bcast_S2x16x128x32_S2x16x128x32x1_0_1_2_3 (transpose S2x16x128x32 [0, 2, 3, 1] (Host.exp (F := Ideal) (φ := .f32) A) transposes_S2x32x16x128_S2x16x128x32_0_2_3_1))))) shapeCasts_S2x16x128x32x32_S2x2048x32x32) shapeCasts_S2x2048x32x32_S2x2048x1024 (ix3 b t d)
      = ((∑ s : Fin 128, X (ix5 b ⟨t.val / 128, by omega⟩ s ⟨d.val / 32, by omega⟩ ⟨d.val % 32, by omega⟩)
            * ((C (ix5 b ⟨t.val / 128, by omega⟩ ⟨t.val % 128, by omega⟩ ⟨d.val / 32, by omega⟩ 0) * B (ix5 b ⟨t.val / 128, by omega⟩ s ⟨d.val / 32, by omega⟩ 0))
              * L (ix5 b ⟨d.val / 32, by omega⟩ ⟨t.val / 128, by omega⟩ ⟨t.val % 128, by omega⟩ s)))
        + (S (ix5 b ⟨t.val / 128, by omega⟩ ⟨d.val / 32, by omega⟩ ⟨d.val % 32, by omega⟩ 0) * C (ix5 b ⟨t.val / 128, by omega⟩ ⟨t.val % 128, by omega⟩ ⟨d.val / 32, by omega⟩ 0))
          * Ideal.exp (A (ix4 b ⟨d.val / 32, by omega⟩ ⟨t.val / 128, by omega⟩ ⟨t.val % 128, by omega⟩)) : EReal) := by
  refine (reshape_at _ b t d).trans ?_
  rw [addf_apply, diag_read, off_read]
  rfl

variable (V0 : Valuation τ sig (Elt Ideal)) (hm : AllOnes V0)

/-- The decay between the rows of a chunk, as an array. -/
abbrev decays : S2x32x16x128x128.Idx → EReal :=
  (Host.exp (select (broadcastInDim S2x32x16x128x128 ![3, 4] bcast_S128x128_S2x32x16x128x128_3_4 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) (Host.reduceWindowAdd ![1, 1, 1, 128, 1] ![1, 1, 1, 1, 1] ![0, 0, 0, 127, 0] ![0, 0, 0, 0, 0] (select (broadcastInDim S2x32x16x128x128 ![3, 4] bcast_S128x128_S2x32x16x128x128_3_4 (select (cmpi .sge (addi (iotaInDim S128x128 32 0) (broadcastInDim S128x128 ![] bcast_S_S128x128 (constantI S_ 32 4294967295#32))) (iotaInDim S128x128 32 1)) (broadcastInDim S128x128 ![] bcast_S_S128x128 (constantI S_ 1 1#1)) (broadcastInDim S128x128 ![] bcast_S_S128x128 (constantI S_ 1 0#1)))) (broadcastInDim S2x32x16x128x128 ![0, 1, 2, 3, 4] bcast_S2x32x16x128x1_S2x32x16x128x128_0_1_2_3_4 (broadcastInDim S2x32x16x128x1 ![0, 1, 2, 3] bcast_S2x32x16x128_S2x32x16x128x1_0_1_2_3 (res_main_v32 V0))) (broadcastInDim S2x32x16x128x128 ![] bcast_S_S2x32x16x128x128 (id (constant (F := Ideal) S_ .f32 0x00000000#32)))) (broadcastInDim S_ ![] bcast_S_S_ (constant (F := Ideal) S_ .f32 0x00000000#32)) reduceWindows_S2x32x16x128x128_S2x32x16x128x128_w1s1p0_0_w1s1p0_0_w1s1p0_0_w128s1p127_0_w1s1p0_0 h_S_) (broadcastInDim S2x32x16x128x128 ![] bcast_S_S2x32x16x128x128 (id (constant (F := Ideal) S_ .f32 0xFF800000#32)))))

include hm

/-- The two summands of a row of a chunk make the moving average there. -/
theorem sum_at (b : Fin 2) (c : Fin 16) (l : Fin 128) (h p : Fin 32) :
    ((∑ s : Fin 128, (show EReal from res_main_v28 V0 (ix5 b c s h p)) * (((show EReal from res_main_v31 V0 (ix5 b c l h 0)) * (show EReal from res_main_v30 V0 (ix5 b c s h 0))) * decays V0 (ix5 b h c l s)))
      + ((show EReal from res_main_v73 V0 (ix5 b ⟨c.val, by omega⟩ h p 0)) * (show EReal from res_main_v31 V0 (ix5 b c l h 0))) * Ideal.exp (res_main_v33 V0 (ix4 b h c l)))
      = Rates.average (rawP V0) (hid V0) b (chanOf h p) (128 * c.val + l.val) := by
  unfold Rates.average
  rw [Ema.ema_stretch]
  refine congrArg₂ (fun x y : EReal => x + y) ?_ ?_
  · refine Eq.trans (Finset.sum_congr rfl fun s _ => ?_) (HostOps.prefix_sum (n := 128) (M := EReal) l (fun s => Ema.share (Rates.steps (rawP V0) b) (Rates.gains (rawP V0) b) (Rates.chan (hid V0) b (chanOf h p)) (Ema.clock (Rates.steps (rawP V0) b) (128 * c.val + l.val + 1)) (128 * c.val + s.val)) _ fun i => rfl)
    refine (congrArg₂ (fun x y : EReal => x * y) (X_at V0 hm b c s h p) (congrArg₂ (fun x y : EReal => x * y) (congrArg₂ (fun x y : EReal => x * y) (C_at V0 b c l h) (B_at V0 hm b c s h)) (seg_at V0 hm b c l h s))).trans ?_
    rw [one_mul]
    split
    · exact share_of V0 b c s h p _
    · rw [mul_zero, mul_zero]
  · refine (congrArg₂ (fun x y : EReal => x * y) (congrArg₂ (fun x y : EReal => x * y) (carried_at V0 hm b h p ⟨c.val, by omega⟩) (C_at V0 b c l h)) (congrArg Ideal.exp (cum_at V0 hm b c l h))).trans ?_
    rw [mul_one, Ideal.exp_coe, mul_comm, add_assoc]

/-- The rows before the last gather. -/
theorem rows_at (b : Fin 2) (t : Fin 2048) (d : Fin 1024) :
    (shapeCast S2x2048x1024 (shapeCast S2x2048x32x32 (addf (transpose S2x16x128x32x32 [0, 1, 4, 2, 3] (Host.dotGeneral (φ₁ := .f32) (φ₂ := .f32) dot_S2x16x128x32x32_S2x32x16x128x128_S2x16x32x32x128_2_4_4_3_013_021 none (res_main_v28 V0) (mulf (Host.dotGeneral (φ₁ := .f32) (φ₂ := .f32) dot_S2x16x128x32x1_S2x16x128x32x1_S2x32x16x128x128_4_4_2_2_031_031 none (res_main_v31 V0) (res_main_v30 V0)) (Host.exp (select (broadcastInDim S2x32x16x128x128 ![3, 4] bcast_S128x128_S2x32x16x128x128_3_4 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) (Host.reduceWindowAdd ![1, 1, 1, 128, 1] ![1, 1, 1, 1, 1] ![0, 0, 0, 127, 0] ![0, 0, 0, 0, 0] (select (broadcastInDim S2x32x16x128x128 ![3, 4] bcast_S128x128_S2x32x16x128x128_3_4 (select (cmpi .sge (addi (iotaInDim S128x128 32 0) (broadcastInDim S128x128 ![] bcast_S_S128x128 (constantI S_ 32 4294967295#32))) (iotaInDim S128x128 32 1)) (broadcastInDim S128x128 ![] bcast_S_S128x128 (constantI S_ 1 1#1)) (broadcastInDim S128x128 ![] bcast_S_S128x128 (constantI S_ 1 0#1)))) (broadcastInDim S2x32x16x128x128 ![0, 1, 2, 3, 4] bcast_S2x32x16x128x1_S2x32x16x128x128_0_1_2_3_4 (broadcastInDim S2x32x16x128x1 ![0, 1, 2, 3] bcast_S2x32x16x128_S2x32x16x128x1_0_1_2_3 (res_main_v32 V0))) (broadcastInDim S2x32x16x128x128 ![] bcast_S_S2x32x16x128x128 (id (constant (F := Ideal) S_ .f32 0x00000000#32)))) (broadcastInDim S_ ![] bcast_S_S_ (constant (F := Ideal) S_ .f32 0x00000000#32)) reduceWindows_S2x32x16x128x128_S2x32x16x128x128_w1s1p0_0_w1s1p0_0_w1s1p0_0_w128s1p127_0_w1s1p0_0 h_S_) (broadcastInDim S2x32x16x128x128 ![] bcast_S_S2x32x16x128x128 (id (constant (F := Ideal) S_ .f32 0xFF800000#32))))))) transposes_S2x16x32x32x128_S2x16x128x32x32_0_1_4_2_3) (mulf (transpose S2x16x128x32x32 [0, 1, 4, 2, 3] (Host.dotGeneral (φ₁ := .f32) (φ₂ := .f32) dot_S2x16x32x32x1_S2x16x128x32x1_S2x16x32x32x128_4_4_3_2_012_013 none (extractStridedSlice S2x16x32x32x1 ![0, 0, 0, 0, 0] (res_main_v73 V0) slices_S2x17x32x32x1_S2x16x32x32x1_0_0_0_0_0) (res_main_v31 V0)) transposes_S2x16x32x32x128_S2x16x128x32x32_0_1_4_2_3) (broadcastInDim S2x16x128x32x32 ![0, 1, 2, 3, 4] bcast_S2x16x128x32x1_S2x16x128x32x32_0_1_2_3_4 (broadcastInDim S2x16x128x32x1 ![0, 1, 2, 3] bcast_S2x16x128x32_S2x16x128x32x1_0_1_2_3 (transpose S2x16x128x32 [0, 2, 3, 1] (Host.exp (res_main_v33 V0)) transposes_S2x32x16x128_S2x16x128x32_0_2_3_1))))) shapeCasts_S2x16x128x32x32_S2x2048x32x32) shapeCasts_S2x2048x32x32_S2x2048x1024) (ix3 b t d)
      = Rates.average (rawP V0) (hid V0) b d t := by
  refine (rows_read (res_main_v28 V0) (res_main_v31 V0) (res_main_v30 V0) (decays V0) (res_main_v73 V0) (res_main_v33 V0) b t d).trans ?_
  refine (sum_at V0 hm b _ _ _ _).trans ?_
  refine congrArg₂ (Rates.average (rawP V0) (hid V0) b) (Fin.ext ?_) ?_
  · show d.val / 32 * 32 + d.val % 32 = d.val
    omega
  · show 128 * (t.val / 128) + t.val % 128 = t.val
    omega

omit hm in
/-- The reference's run: its result is the moving average, its arguments end as launched. -/
theorem value (m : (ℓ : Loc nD τ sig) → Buf (Elt Ideal) ℓ) (g : Dev nD → PrngReg) (hones : ∀ c : Dev nD, AllOnes (launchContents m c)) :
    θ_run (defs (F := Ideal)) (onTc (τ := τ) (main (F := Ideal))) ⟨m, fun _ => 0, g⟩ fun r => ∀ c : Dev nD,
      (∀ (b : Fin 2) (t : Fin 2048) (d : Fin 1024), (r.2.mem ((c.tc : Thread nD τ).loc main_v93) : S2x2048x1024.Idx → EReal) (ix3 b t d)
        = Rates.average (m ((c.tc : Thread nD τ).loc main_arg2)) (m ((c.tc : Thread nD τ).loc main_arg0)) b d t)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨fun b t d => (congrFun (h c).1 (ix3 b t d)).trans
      ((plug_back (launchContents m c) (hones c) _ b t d).trans (rows_at (launchContents m c) (hones c) b t d)), (h c).2⟩)
    (Value.run (F := Ideal) m g)

end Cert.ReferenceIdeal.Hand
-- ==== Proof.Boundaries.lean ====
/-
  The precondition read off: where its conjunction over the mask is true, every bit of the mask is one.
-/
module

public import proofs.«01_k».proof.Pre_all_boundaries
public import Idealize.ShloMosaic.Lib.Pointwise
public import Idealize.ShloMosaic.Lib.StableHlo.ReadAt

@[expose] public section

noncomputable section

namespace Cert.Pre_all_boundaries

open Idealize.ShloMosaic

/-- The side conditions of the precondition's operations. -/
theorem facts : Facts := ⟨by decide, by decide⟩

/-- A conjunction that is one has every member one. -/
theorem ones_of_fold {ι : Type} [DecidableEq ι] (s : Finset ι) (f : ι → BitVec 1) (h : Finset.fold IntOp.andi 1#1 f s = 1#1) : ∀ i ∈ s, f i = 1#1 := by
  induction s using Finset.induction_on with
  | empty => intro i hi; exact absurd hi (Finset.notMem_empty i)
  | insert a s ha ih =>
    rw [Finset.fold_insert ha] at h
    have hand : ∀ x y : BitVec 1, IntOp.andi x y = 1#1 → x = 1#1 ∧ y = 1#1 := by decide
    intro i hi
    rcases Finset.mem_insert.1 hi with rfl | hi
    · exact (hand _ _ h).1
    · exact ih (hand _ _ h).2 i hi

/-- Where the precondition holds every position is a boundary. -/
theorem ones (hf : Facts) (x0 : S2x2048x1024.Idx → EReal) (x1 : IVec S2x2048 1) (x2 : S2x2048.Idx → EReal) (x3 : IVec S2x2048 1)
    (h : fn (F := Ideal) x0 x1 x2 x3 = fun _ => 1#1) (i : S2x2048.Idx) : x1 i = 1#1 := by
  have h0 : Host.reduce IntOp.andi x1 (constantI S_ 1 1#1) Facts.reducesTo_S2x2048_S_d0_1 Facts.h_S_ ix0 = 1#1 := congrFun h ix0
  rw [Host.reduce_eq_fold] at h0
  exact ones_of_fold _ _ h0 i (Finset.mem_filter.2 ⟨Finset.mem_univ _, funext fun a => a.elim0⟩)

end Cert.Pre_all_boundaries
-- ==== Proof.lean ====
/- The certificate of the kernel: its frames, and that it and the reference end with equal results. -/
module

public import proofs.«01_k».proof.Defs
public import proofs.«01_k».proof.Proof.KernelFrame
public import proofs.«01_k».proof.Proof.KernelIdealLaunch
public import proofs.«01_k».proof.Proof.KernelValue
public import proofs.«01_k».proof.Proof.RefRows
public import proofs.«01_k».proof.Proof.Boundaries
public import proofs.«01_k».proof.Proof.Gen.ReferenceIdeal
public import proofs.«01_k».proof.Proof.Gen.ReferenceIdeal.Run
public import Idealize.ShloMosaic.Lib.Quiescent
public import Idealize.ShloMosaic.Lib.Claim

@[expose] public section

noncomputable section

namespace Cert.Proof

open Idealize.ShloMosaic Idealize.SL.Sem

/-- The reference leaves its arguments as launched; it declares no semaphore. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Where every position is a boundary, the kernel and the reference both end with the moving average, and leave their arguments as launched. -/
theorem algebraic : Cert.algebraic_KernelIdeal_ReferenceIdeal_pre_all_boundaries (hKernelIdeal := Cert.KernelIdeal.Gen.facts)
    (hReferenceIdeal := Cert.ReferenceIdeal.Gen.facts) (hPre_all_boundaries := Cert.Pre_all_boundaries.facts) := by
  intro m g m' g' hpre hagree
  have hones : ∀ c : Dev Cert.ReferenceIdeal.nD, Cert.ReferenceIdeal.Hand.AllOnes (StableHlo.launchContents m' c) := fun c b t =>
    (congrFun (hagree c).2.1 (ix2 b t)).trans (Cert.Pre_all_boundaries.ones Cert.Pre_all_boundaries.facts _ _ _ _ (hpre c) (ix2 b t))
  refine ⟨fun c => Cert.KernelIdeal.Hand.outV m c, ?_, ?_⟩
  · exact (θ_run Cert.KernelIdeal.defs _ _).mono (fun r h c => ⟨h.1 c, h.2.1 c⟩)
      (θ_run_and (Cert.KernelIdeal.Hand.value m g) (Cert.KernelIdeal.Hand.frame m g))
  · refine (θ_run Cert.ReferenceIdeal.defs _ _).mono (fun r h c => ⟨funext fun i => ?_, (h c).2⟩) (Cert.ReferenceIdeal.Hand.value m' g' hones)
    obtain ⟨b, t, d, rfl⟩ : ∃ (b : Fin 2) (t : Fin 2048) (d : Fin 1024), i = ix3 b t d := ⟨_, _, _, eq_ix3 i⟩
    refine ((h c).1 b t d).trans (Eq.trans ?_ (Cert.KernelIdeal.Hand.outV_at m c b t d).symm)
    rw [(hagree c).2.2.1, (hagree c).1]

/-- Everything that is claimed: the frames of the three programs, that the idealization is the kernel's own text, and that kernel and reference end with equal results. -/
theorem claim : Cert.Claim := ⟨Cert.Kernel.Gen.facts, Cert.KernelIdeal.Gen.facts, Cert.ReferenceIdeal.Gen.facts, Cert.Pre_all_boundaries.facts,
  fun m g _ => Cert.Kernel.Hand.frame m g,
  fun m g _ => Cert.KernelIdeal.Hand.frame m g,
  fun m g _ => Cert.KernelIdeal.Hand.frame m g,
  fun m g _ => frame_ref m g,
  fun m g _ => frame_ref m g,
  trivial,
  algebraic⟩

end Cert.Proof

end
